-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨2, ![512, 512]⟩ ⟨2, ![8192, 512]⟩ 0 16 c (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_arg0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_arg0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S512x512 : Shape := ⟨2, ![512, 512]⟩
abbrev S8192x512 : Shape := ⟨2, ![8192, 512]⟩
abbrev S8x2 : Shape := ⟨2, ![8, 2]⟩
abbrev S17 : Shape := ⟨1, ![17]⟩
abbrev S256x512 : Shape := ⟨2, ![256, 512]⟩
abbrev S1 : Shape := ⟨1, ![1]⟩
abbrev S_ : Shape := ⟨0, ![]⟩
abbrev S1x1 : Shape := ⟨2, ![1, 1]⟩

abbrev nBuf : Space → Nat
  | .hbm => 2
  | .vmem => 2
  | .smem => 0
  | _ => 0

abbrev bufTy : (tb : Table) → Fin (tcTables nBuf tb) → BufTy
  | .hbm, ⟨0, _⟩ => ⟨S512x512, .bf16⟩
  | .hbm, ⟨1, _⟩ => ⟨S8192x512, .bf16⟩
  | .local _ .vmem, ⟨0, _⟩ => ⟨S512x512, .bf16⟩
  | .local _ .vmem, ⟨1, _⟩ => ⟨S8192x512, .bf16⟩
  | _, _ => ⟨S512x512, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  (ofTc nBuf bufTy 1 82 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_off1 (d0 : Dev nD) (c0_i32_20 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v35 : BitVec 32 := Scalar.muli v2 c512_i32
  let v36 : BitVec 32 := Scalar.addi v35 c0_i32_20
  let v37 : Index := Scalar.indexCast v36
  let c0_21 : Index := 0#32
  ![v37.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_25 : BitVec 32 := 512#32
  let v49 : BitVec 32 := Scalar.muli v2 c512_i32_25
  let c0_i32_26 : BitVec 32 := 0#32
  let v50 : BitVec 32 := Scalar.addi v49 c0_i32_26
  let c0_i32_28 : BitVec 32 := 0#32
  ![v50.toNat, 0]
def k0_dev1 (d0 : Dev nD) : Nat :=
  let c0_i32_32 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_10 : BitVec 32 := 1#32
  let v22 : BitVec 32 := Scalar.subi v10 c1_i32_10
  let c32_i32_11 : BitVec 32 := 32#32
  let v23 : BitVec 32 := Scalar.addi v22 c32_i32_11
  let c16_i32_12 : BitVec 32 := 16#32
  let v24 : BitVec 32 := Scalar.remsi v23 c16_i32_12
  let c4_i32_13 : BitVec 32 := 4#32
  let v25 : BitVec 32 := Scalar.divsi v24 c4_i32_13
  let c4_i32_18 : BitVec 32 := 4#32
  let c2_i32_15 : BitVec 32 := 2#32
  let v27 : BitVec 32 := Scalar.remsi v25 c2_i32_15
  let c0_i32_16 : BitVec 32 := 0#32
  let v28 : BitVec 1 := Scalar.cmpi .eq v27 c0_i32_16
  let c4_i32_14 : BitVec 32 := 4#32
  let v26 : BitVec 32 := Scalar.remsi v24 c4_i32_14
  let c3_i32_17 : BitVec 32 := 3#32
  let v29 : BitVec 32 := Scalar.subi c3_i32_17 v26
  let v30 : BitVec 32 := Scalar.select v28 v26 v29
  let v31 : BitVec 32 := Scalar.muli c4_i32_18 v30
  let v32 : BitVec 32 := Scalar.addi v25 v31
  let c1_i32_31 : BitVec 32 := 1#32
  let v56 : BitVec 32 := Scalar.muli v32 c1_i32_31
  let v57 : BitVec 32 := Scalar.addi c0_i32_32 v56
  v57.toNat
def k0_dev2 (d0 : Dev nD) : Nat :=
  let c0_i32_35 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_2 : BitVec 32 := 1#32
  let v11 : BitVec 32 := Scalar.addi v10 c1_i32_2
  let c32_i32 : BitVec 32 := 32#32
  let v12 : BitVec 32 := Scalar.addi v11 c32_i32
  let c16_i32_3 : BitVec 32 := 16#32
  let v13 : BitVec 32 := Scalar.remsi v12 c16_i32_3
  let c4_i32_4 : BitVec 32 := 4#32
  let v14 : BitVec 32 := Scalar.divsi v13 c4_i32_4
  let c4_i32_9 : BitVec 32 := 4#32
  let c2_i32_6 : BitVec 32 := 2#32
  let v16 : BitVec 32 := Scalar.remsi v14 c2_i32_6
  let c0_i32_7 : BitVec 32 := 0#32
  let v17 : BitVec 1 := Scalar.cmpi .eq v16 c0_i32_7
  let c4_i32_5 : BitVec 32 := 4#32
  let v15 : BitVec 32 := Scalar.remsi v13 c4_i32_5
  let c3_i32_8 : BitVec 32 := 3#32
  let v18 : BitVec 32 := Scalar.subi c3_i32_8 v15
  let v19 : BitVec 32 := Scalar.select v17 v15 v18
  let v20 : BitVec 32 := Scalar.muli c4_i32_9 v19
  let v21 : BitVec 32 := Scalar.addi v14 v20
  let c1_i32_34 : BitVec 32 := 1#32
  let v58 : BitVec 32 := Scalar.muli v21 c1_i32_34
  let v59 : BitVec 32 := Scalar.addi c0_i32_35 v58
  v59.toNat
def k0_off3 (d0 : Dev nD) (c0_i32_37 : BitVec 32) (c0_i32_47 : BitVec 32) : Fin 2 → Nat :=
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let v60 : BitVec 32 := Scalar.subi v10 c0_i32_37
  let c32_i32_38 : BitVec 32 := 32#32
  let v61 : BitVec 32 := Scalar.addi v60 c32_i32_38
  let c16_i32_39 : BitVec 32 := 16#32
  let v62 : BitVec 32 := Scalar.remsi v61 c16_i32_39
  let c4_i32_40 : BitVec 32 := 4#32
  let v63 : BitVec 32 := Scalar.divsi v62 c4_i32_40
  let c4_i32_45 : BitVec 32 := 4#32
  let c2_i32_42 : BitVec 32 := 2#32
  let v65 : BitVec 32 := Scalar.remsi v63 c2_i32_42
  let c0_i32_43 : BitVec 32 := 0#32
  let v66 : BitVec 1 := Scalar.cmpi .eq v65 c0_i32_43
  let c4_i32_41 : BitVec 32 := 4#32
  let v64 : BitVec 32 := Scalar.remsi v62 c4_i32_41
  let c3_i32_44 : BitVec 32 := 3#32
  let v67 : BitVec 32 := Scalar.subi c3_i32_44 v64
  let v68 : BitVec 32 := Scalar.select v66 v64 v67
  let v69 : BitVec 32 := Scalar.muli c4_i32_45 v68
  let v70 : BitVec 32 := Scalar.addi v63 v69
  let c512_i32_46 : BitVec 32 := 512#32
  let v71 : BitVec 32 := Scalar.muli v70 c512_i32_46
  let v72 : BitVec 32 := Scalar.addi v71 c0_i32_47
  let c0_i32_54 : BitVec 32 := 0#32
  ![v72.toNat, 0]
def k0_off3_at (r : Fin 17) : BitVec 32 × BitVec 32 :=
  if r.val < 8 then
    if r.val < 4 then
      if r.val < 2 then
        if r.val < 1 then
          (0#32, 0#32)
        else
          (0#32, 256#32)
      else
        if r.val < 3 then
          (1#32, 0#32)
        else
          (1#32, 256#32)
    else
      if r.val < 6 then
        if r.val < 5 then
          (2#32, 0#32)
        else
          (2#32, 256#32)
      else
        if r.val < 7 then
          (3#32, 0#32)
        else
          (3#32, 256#32)
  else
    if r.val < 12 then
      if r.val < 10 then
        if r.val < 9 then
          (4#32, 0#32)
        else
          (4#32, 256#32)
      else
        if r.val < 11 then
          (5#32, 0#32)
        else
          (5#32, 256#32)
    else
      if r.val < 14 then
        if r.val < 13 then
          (6#32, 0#32)
        else
          (6#32, 256#32)
      else
        if r.val < 15 then
          (7#32, 0#32)
        else
          if r.val < 16 then
            (7#32, 256#32)
          else
            (8#32, 0#32)
def k0_dev3 (d0 : Dev nD) : Nat :=
  let c0_i32_53 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_2 : BitVec 32 := 1#32
  let v11 : BitVec 32 := Scalar.addi v10 c1_i32_2
  let c32_i32 : BitVec 32 := 32#32
  let v12 : BitVec 32 := Scalar.addi v11 c32_i32
  let c16_i32_3 : BitVec 32 := 16#32
  let v13 : BitVec 32 := Scalar.remsi v12 c16_i32_3
  let c4_i32_4 : BitVec 32 := 4#32
  let v14 : BitVec 32 := Scalar.divsi v13 c4_i32_4
  let c4_i32_9 : BitVec 32 := 4#32
  let c2_i32_6 : BitVec 32 := 2#32
  let v16 : BitVec 32 := Scalar.remsi v14 c2_i32_6
  let c0_i32_7 : BitVec 32 := 0#32
  let v17 : BitVec 1 := Scalar.cmpi .eq v16 c0_i32_7
  let c4_i32_5 : BitVec 32 := 4#32
  let v15 : BitVec 32 := Scalar.remsi v13 c4_i32_5
  let c3_i32_8 : BitVec 32 := 3#32
  let v18 : BitVec 32 := Scalar.subi c3_i32_8 v15
  let v19 : BitVec 32 := Scalar.select v17 v15 v18
  let v20 : BitVec 32 := Scalar.muli c4_i32_9 v19
  let v21 : BitVec 32 := Scalar.addi v14 v20
  let c1_i32_52 : BitVec 32 := 1#32
  let v73 : BitVec 32 := Scalar.muli v21 c1_i32_52
  let v74 : BitVec 32 := Scalar.addi c0_i32_53 v73
  v74.toNat
def k0_off4 (d0 : Dev nD) (c0_i32_56 : BitVec 32) (c256_i32_66 : BitVec 32) : Fin 2 → Nat :=
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let v81 : BitVec 32 := Scalar.addi v10 c0_i32_56
  let c32_i32_57 : BitVec 32 := 32#32
  let v82 : BitVec 32 := Scalar.addi v81 c32_i32_57
  let c16_i32_58 : BitVec 32 := 16#32
  let v83 : BitVec 32 := Scalar.remsi v82 c16_i32_58
  let c4_i32_59 : BitVec 32 := 4#32
  let v84 : BitVec 32 := Scalar.divsi v83 c4_i32_59
  let c4_i32_64 : BitVec 32 := 4#32
  let c2_i32_61 : BitVec 32 := 2#32
  let v86 : BitVec 32 := Scalar.remsi v84 c2_i32_61
  let c0_i32_62 : BitVec 32 := 0#32
  let v87 : BitVec 1 := Scalar.cmpi .eq v86 c0_i32_62
  let c4_i32_60 : BitVec 32 := 4#32
  let v85 : BitVec 32 := Scalar.remsi v83 c4_i32_60
  let c3_i32_63 : BitVec 32 := 3#32
  let v88 : BitVec 32 := Scalar.subi c3_i32_63 v85
  let v89 : BitVec 32 := Scalar.select v87 v85 v88
  let v90 : BitVec 32 := Scalar.muli c4_i32_64 v89
  let v91 : BitVec 32 := Scalar.addi v84 v90
  let c512_i32_65 : BitVec 32 := 512#32
  let v92 : BitVec 32 := Scalar.muli v91 c512_i32_65
  let v93 : BitVec 32 := Scalar.addi v92 c256_i32_66
  let c0_i32_73 : BitVec 32 := 0#32
  ![v93.toNat, 0]
def k0_off4_at (r : Fin 17) : BitVec 32 × BitVec 32 :=
  if r.val < 8 then
    if r.val < 4 then
      if r.val < 2 then
        if r.val < 1 then
          (0#32, 256#32)
        else
          (0#32, 0#32)
      else
        if r.val < 3 then
          (1#32, 256#32)
        else
          (1#32, 0#32)
    else
      if r.val < 6 then
        if r.val < 5 then
          (2#32, 256#32)
        else
          (2#32, 0#32)
      else
        if r.val < 7 then
          (3#32, 256#32)
        else
          (3#32, 0#32)
  else
    if r.val < 12 then
      if r.val < 10 then
        if r.val < 9 then
          (4#32, 256#32)
        else
          (4#32, 0#32)
      else
        if r.val < 11 then
          (5#32, 256#32)
        else
          (5#32, 0#32)
    else
      if r.val < 14 then
        if r.val < 13 then
          (6#32, 256#32)
        else
          (6#32, 0#32)
      else
        if r.val < 15 then
          (7#32, 256#32)
        else
          if r.val < 16 then
            (7#32, 0#32)
          else
            (8#32, 256#32)
def k0_dev4 (d0 : Dev nD) : Nat :=
  let c0_i32_72 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_10 : BitVec 32 := 1#32
  let v22 : BitVec 32 := Scalar.subi v10 c1_i32_10
  let c32_i32_11 : BitVec 32 := 32#32
  let v23 : BitVec 32 := Scalar.addi v22 c32_i32_11
  let c16_i32_12 : BitVec 32 := 16#32
  let v24 : BitVec 32 := Scalar.remsi v23 c16_i32_12
  let c4_i32_13 : BitVec 32 := 4#32
  let v25 : BitVec 32 := Scalar.divsi v24 c4_i32_13
  let c4_i32_18 : BitVec 32 := 4#32
  let c2_i32_15 : BitVec 32 := 2#32
  let v27 : BitVec 32 := Scalar.remsi v25 c2_i32_15
  let c0_i32_16 : BitVec 32 := 0#32
  let v28 : BitVec 1 := Scalar.cmpi .eq v27 c0_i32_16
  let c4_i32_14 : BitVec 32 := 4#32
  let v26 : BitVec 32 := Scalar.remsi v24 c4_i32_14
  let c3_i32_17 : BitVec 32 := 3#32
  let v29 : BitVec 32 := Scalar.subi c3_i32_17 v26
  let v30 : BitVec 32 := Scalar.select v28 v26 v29
  let v31 : BitVec 32 := Scalar.muli c4_i32_18 v30
  let v32 : BitVec 32 := Scalar.addi v25 v31
  let c1_i32_71 : BitVec 32 := 1#32
  let v94 : BitVec 32 := Scalar.muli v32 c1_i32_71
  let v95 : BitVec 32 := Scalar.addi c0_i32_72 v94
  v95.toNat
def k0_dev5 (d0 : Dev nD) : Nat :=
  let c0_i32_91 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_2 : BitVec 32 := 1#32
  let v11 : BitVec 32 := Scalar.addi v10 c1_i32_2
  let c32_i32 : BitVec 32 := 32#32
  let v12 : BitVec 32 := Scalar.addi v11 c32_i32
  let c16_i32_3 : BitVec 32 := 16#32
  let v13 : BitVec 32 := Scalar.remsi v12 c16_i32_3
  let c4_i32_4 : BitVec 32 := 4#32
  let v14 : BitVec 32 := Scalar.divsi v13 c4_i32_4
  let c4_i32_9 : BitVec 32 := 4#32
  let c2_i32_6 : BitVec 32 := 2#32
  let v16 : BitVec 32 := Scalar.remsi v14 c2_i32_6
  let c0_i32_7 : BitVec 32 := 0#32
  let v17 : BitVec 1 := Scalar.cmpi .eq v16 c0_i32_7
  let c4_i32_5 : BitVec 32 := 4#32
  let v15 : BitVec 32 := Scalar.remsi v13 c4_i32_5
  let c3_i32_8 : BitVec 32 := 3#32
  let v18 : BitVec 32 := Scalar.subi c3_i32_8 v15
  let v19 : BitVec 32 := Scalar.select v17 v15 v18
  let v20 : BitVec 32 := Scalar.muli c4_i32_9 v19
  let v21 : BitVec 32 := Scalar.addi v14 v20
  let c1_i32_90 : BitVec 32 := 1#32
  let v115 : BitVec 32 := Scalar.muli v21 c1_i32_90
  let v116 : BitVec 32 := Scalar.addi c0_i32_91 v115
  v116.toNat
def k0_dev6 (d0 : Dev nD) : Nat :=
  let c0_i32_110 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_10 : BitVec 32 := 1#32
  let v22 : BitVec 32 := Scalar.subi v10 c1_i32_10
  let c32_i32_11 : BitVec 32 := 32#32
  let v23 : BitVec 32 := Scalar.addi v22 c32_i32_11
  let c16_i32_12 : BitVec 32 := 16#32
  let v24 : BitVec 32 := Scalar.remsi v23 c16_i32_12
  let c4_i32_13 : BitVec 32 := 4#32
  let v25 : BitVec 32 := Scalar.divsi v24 c4_i32_13
  let c4_i32_18 : BitVec 32 := 4#32
  let c2_i32_15 : BitVec 32 := 2#32
  let v27 : BitVec 32 := Scalar.remsi v25 c2_i32_15
  let c0_i32_16 : BitVec 32 := 0#32
  let v28 : BitVec 1 := Scalar.cmpi .eq v27 c0_i32_16
  let c4_i32_14 : BitVec 32 := 4#32
  let v26 : BitVec 32 := Scalar.remsi v24 c4_i32_14
  let c3_i32_17 : BitVec 32 := 3#32
  let v29 : BitVec 32 := Scalar.subi c3_i32_17 v26
  let v30 : BitVec 32 := Scalar.select v28 v26 v29
  let v31 : BitVec 32 := Scalar.muli c4_i32_18 v30
  let v32 : BitVec 32 := Scalar.addi v25 v31
  let c1_i32_109 : BitVec 32 := 1#32
  let v136 : BitVec 32 := Scalar.muli v32 c1_i32_109
  let v137 : BitVec 32 := Scalar.addi c0_i32_110 v136
  v137.toNat
def k0_dev7 (d0 : Dev nD) : Nat :=
  let c0_i32_148 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_2 : BitVec 32 := 1#32
  let v11 : BitVec 32 := Scalar.addi v10 c1_i32_2
  let c32_i32 : BitVec 32 := 32#32
  let v12 : BitVec 32 := Scalar.addi v11 c32_i32
  let c16_i32_3 : BitVec 32 := 16#32
  let v13 : BitVec 32 := Scalar.remsi v12 c16_i32_3
  let c4_i32_4 : BitVec 32 := 4#32
  let v14 : BitVec 32 := Scalar.divsi v13 c4_i32_4
  let c4_i32_9 : BitVec 32 := 4#32
  let c2_i32_6 : BitVec 32 := 2#32
  let v16 : BitVec 32 := Scalar.remsi v14 c2_i32_6
  let c0_i32_7 : BitVec 32 := 0#32
  let v17 : BitVec 1 := Scalar.cmpi .eq v16 c0_i32_7
  let c4_i32_5 : BitVec 32 := 4#32
  let v15 : BitVec 32 := Scalar.remsi v13 c4_i32_5
  let c3_i32_8 : BitVec 32 := 3#32
  let v18 : BitVec 32 := Scalar.subi c3_i32_8 v15
  let v19 : BitVec 32 := Scalar.select v17 v15 v18
  let v20 : BitVec 32 := Scalar.muli c4_i32_9 v19
  let v21 : BitVec 32 := Scalar.addi v14 v20
  let c1_i32_147 : BitVec 32 := 1#32
  let v176 : BitVec 32 := Scalar.muli v21 c1_i32_147
  let v177 : BitVec 32 := Scalar.addi c0_i32_148 v176
  v177.toNat
def k0_dev8 (d0 : Dev nD) : Nat :=
  let c0_i32_186 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_10 : BitVec 32 := 1#32
  let v22 : BitVec 32 := Scalar.subi v10 c1_i32_10
  let c32_i32_11 : BitVec 32 := 32#32
  let v23 : BitVec 32 := Scalar.addi v22 c32_i32_11
  let c16_i32_12 : BitVec 32 := 16#32
  let v24 : BitVec 32 := Scalar.remsi v23 c16_i32_12
  let c4_i32_13 : BitVec 32 := 4#32
  let v25 : BitVec 32 := Scalar.divsi v24 c4_i32_13
  let c4_i32_18 : BitVec 32 := 4#32
  let c2_i32_15 : BitVec 32 := 2#32
  let v27 : BitVec 32 := Scalar.remsi v25 c2_i32_15
  let c0_i32_16 : BitVec 32 := 0#32
  let v28 : BitVec 1 := Scalar.cmpi .eq v27 c0_i32_16
  let c4_i32_14 : BitVec 32 := 4#32
  let v26 : BitVec 32 := Scalar.remsi v24 c4_i32_14
  let c3_i32_17 : BitVec 32 := 3#32
  let v29 : BitVec 32 := Scalar.subi c3_i32_17 v26
  let v30 : BitVec 32 := Scalar.select v28 v26 v29
  let v31 : BitVec 32 := Scalar.muli c4_i32_18 v30
  let v32 : BitVec 32 := Scalar.addi v25 v31
  let c1_i32_185 : BitVec 32 := 1#32
  let v216 : BitVec 32 := Scalar.muli v32 c1_i32_185
  let v217 : BitVec 32 := Scalar.addi c0_i32_186 v216
  v217.toNat
def k0_dev9 (d0 : Dev nD) : Nat :=
  let c0_i32_224 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_2 : BitVec 32 := 1#32
  let v11 : BitVec 32 := Scalar.addi v10 c1_i32_2
  let c32_i32 : BitVec 32 := 32#32
  let v12 : BitVec 32 := Scalar.addi v11 c32_i32
  let c16_i32_3 : BitVec 32 := 16#32
  let v13 : BitVec 32 := Scalar.remsi v12 c16_i32_3
  let c4_i32_4 : BitVec 32 := 4#32
  let v14 : BitVec 32 := Scalar.divsi v13 c4_i32_4
  let c4_i32_9 : BitVec 32 := 4#32
  let c2_i32_6 : BitVec 32 := 2#32
  let v16 : BitVec 32 := Scalar.remsi v14 c2_i32_6
  let c0_i32_7 : BitVec 32 := 0#32
  let v17 : BitVec 1 := Scalar.cmpi .eq v16 c0_i32_7
  let c4_i32_5 : BitVec 32 := 4#32
  let v15 : BitVec 32 := Scalar.remsi v13 c4_i32_5
  let c3_i32_8 : BitVec 32 := 3#32
  let v18 : BitVec 32 := Scalar.subi c3_i32_8 v15
  let v19 : BitVec 32 := Scalar.select v17 v15 v18
  let v20 : BitVec 32 := Scalar.muli c4_i32_9 v19
  let v21 : BitVec 32 := Scalar.addi v14 v20
  let c1_i32_223 : BitVec 32 := 1#32
  let v256 : BitVec 32 := Scalar.muli v21 c1_i32_223
  let v257 : BitVec 32 := Scalar.addi c0_i32_224 v256
  v257.toNat
def k0_dev10 (d0 : Dev nD) : Nat :=
  let c0_i32_262 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_10 : BitVec 32 := 1#32
  let v22 : BitVec 32 := Scalar.subi v10 c1_i32_10
  let c32_i32_11 : BitVec 32 := 32#32
  let v23 : BitVec 32 := Scalar.addi v22 c32_i32_11
  let c16_i32_12 : BitVec 32 := 16#32
  let v24 : BitVec 32 := Scalar.remsi v23 c16_i32_12
  let c4_i32_13 : BitVec 32 := 4#32
  let v25 : BitVec 32 := Scalar.divsi v24 c4_i32_13
  let c4_i32_18 : BitVec 32 := 4#32
  let c2_i32_15 : BitVec 32 := 2#32
  let v27 : BitVec 32 := Scalar.remsi v25 c2_i32_15
  let c0_i32_16 : BitVec 32 := 0#32
  let v28 : BitVec 1 := Scalar.cmpi .eq v27 c0_i32_16
  let c4_i32_14 : BitVec 32 := 4#32
  let v26 : BitVec 32 := Scalar.remsi v24 c4_i32_14
  let c3_i32_17 : BitVec 32 := 3#32
  let v29 : BitVec 32 := Scalar.subi c3_i32_17 v26
  let v30 : BitVec 32 := Scalar.select v28 v26 v29
  let v31 : BitVec 32 := Scalar.muli c4_i32_18 v30
  let v32 : BitVec 32 := Scalar.addi v25 v31
  let c1_i32_261 : BitVec 32 := 1#32
  let v296 : BitVec 32 := Scalar.muli v32 c1_i32_261
  let v297 : BitVec 32 := Scalar.addi c0_i32_262 v296
  v297.toNat
def k0_off5 (d0 : Dev nD) (c1_i32_265 : BitVec 32) : Fin 2 → Nat :=
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let v304 : BitVec 32 := Scalar.subi v10 c1_i32_265
  let c32_i32_266 : BitVec 32 := 32#32
  let v305 : BitVec 32 := Scalar.addi v304 c32_i32_266
  let c16_i32_267 : BitVec 32 := 16#32
  let v306 : BitVec 32 := Scalar.remsi v305 c16_i32_267
  let c4_i32_268 : BitVec 32 := 4#32
  let v307 : BitVec 32 := Scalar.divsi v306 c4_i32_268
  let c4_i32_273 : BitVec 32 := 4#32
  let c2_i32_270 : BitVec 32 := 2#32
  let v309 : BitVec 32 := Scalar.remsi v307 c2_i32_270
  let c0_i32_271 : BitVec 32 := 0#32
  let v310 : BitVec 1 := Scalar.cmpi .eq v309 c0_i32_271
  let c4_i32_269 : BitVec 32 := 4#32
  let v308 : BitVec 32 := Scalar.remsi v306 c4_i32_269
  let c3_i32_272 : BitVec 32 := 3#32
  let v311 : BitVec 32 := Scalar.subi c3_i32_272 v308
  let v312 : BitVec 32 := Scalar.select v310 v308 v311
  let v313 : BitVec 32 := Scalar.muli c4_i32_273 v312
  let v314 : BitVec 32 := Scalar.addi v307 v313
  let c512_i32_274 : BitVec 32 := 512#32
  let v315 : BitVec 32 := Scalar.muli v314 c512_i32_274
  let c0_i32_275 : BitVec 32 := 0#32
  let v316 : BitVec 32 := Scalar.addi v315 c0_i32_275
  let c0_i32_277 : BitVec 32 := 0#32
  ![v316.toNat, 0]
def k0_off6 (d0 : Dev nD) (c1_i32_279 : BitVec 32) : Fin 2 → Nat :=
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let v321 : BitVec 32 := Scalar.addi v10 c1_i32_279
  let c32_i32_280 : BitVec 32 := 32#32
  let v322 : BitVec 32 := Scalar.addi v321 c32_i32_280
  let c16_i32_281 : BitVec 32 := 16#32
  let v323 : BitVec 32 := Scalar.remsi v322 c16_i32_281
  let c4_i32_282 : BitVec 32 := 4#32
  let v324 : BitVec 32 := Scalar.divsi v323 c4_i32_282
  let c4_i32_287 : BitVec 32 := 4#32
  let c2_i32_284 : BitVec 32 := 2#32
  let v326 : BitVec 32 := Scalar.remsi v324 c2_i32_284
  let c0_i32_285 : BitVec 32 := 0#32
  let v327 : BitVec 1 := Scalar.cmpi .eq v326 c0_i32_285
  let c4_i32_283 : BitVec 32 := 4#32
  let v325 : BitVec 32 := Scalar.remsi v323 c4_i32_283
  let c3_i32_286 : BitVec 32 := 3#32
  let v328 : BitVec 32 := Scalar.subi c3_i32_286 v325
  let v329 : BitVec 32 := Scalar.select v327 v325 v328
  let v330 : BitVec 32 := Scalar.muli c4_i32_287 v329
  let v331 : BitVec 32 := Scalar.addi v324 v330
  let c512_i32_288 : BitVec 32 := 512#32
  let v332 : BitVec 32 := Scalar.muli v331 c512_i32_288
  let c0_i32_289 : BitVec 32 := 0#32
  let v333 : BitVec 32 := Scalar.addi v332 c0_i32_289
  let c0_i32_290 : BitVec 32 := 0#32
  ![v333.toNat, 0]
def k0_dev11 (d0 : Dev nD) : Nat :=
  let c0_i32_327 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_2 : BitVec 32 := 1#32
  let v11 : BitVec 32 := Scalar.addi v10 c1_i32_2
  let c32_i32 : BitVec 32 := 32#32
  let v12 : BitVec 32 := Scalar.addi v11 c32_i32
  let c16_i32_3 : BitVec 32 := 16#32
  let v13 : BitVec 32 := Scalar.remsi v12 c16_i32_3
  let c4_i32_4 : BitVec 32 := 4#32
  let v14 : BitVec 32 := Scalar.divsi v13 c4_i32_4
  let c4_i32_9 : BitVec 32 := 4#32
  let c2_i32_6 : BitVec 32 := 2#32
  let v16 : BitVec 32 := Scalar.remsi v14 c2_i32_6
  let c0_i32_7 : BitVec 32 := 0#32
  let v17 : BitVec 1 := Scalar.cmpi .eq v16 c0_i32_7
  let c4_i32_5 : BitVec 32 := 4#32
  let v15 : BitVec 32 := Scalar.remsi v13 c4_i32_5
  let c3_i32_8 : BitVec 32 := 3#32
  let v18 : BitVec 32 := Scalar.subi c3_i32_8 v15
  let v19 : BitVec 32 := Scalar.select v17 v15 v18
  let v20 : BitVec 32 := Scalar.muli c4_i32_9 v19
  let v21 : BitVec 32 := Scalar.addi v14 v20
  let c1_i32_326 : BitVec 32 := 1#32
  let v370 : BitVec 32 := Scalar.muli v21 c1_i32_326
  let v371 : BitVec 32 := Scalar.addi c0_i32_327 v370
  v371.toNat
def k0_dev12 (d0 : Dev nD) : Nat :=
  let c0_i32_365 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_10 : BitVec 32 := 1#32
  let v22 : BitVec 32 := Scalar.subi v10 c1_i32_10
  let c32_i32_11 : BitVec 32 := 32#32
  let v23 : BitVec 32 := Scalar.addi v22 c32_i32_11
  let c16_i32_12 : BitVec 32 := 16#32
  let v24 : BitVec 32 := Scalar.remsi v23 c16_i32_12
  let c4_i32_13 : BitVec 32 := 4#32
  let v25 : BitVec 32 := Scalar.divsi v24 c4_i32_13
  let c4_i32_18 : BitVec 32 := 4#32
  let c2_i32_15 : BitVec 32 := 2#32
  let v27 : BitVec 32 := Scalar.remsi v25 c2_i32_15
  let c0_i32_16 : BitVec 32 := 0#32
  let v28 : BitVec 1 := Scalar.cmpi .eq v27 c0_i32_16
  let c4_i32_14 : BitVec 32 := 4#32
  let v26 : BitVec 32 := Scalar.remsi v24 c4_i32_14
  let c3_i32_17 : BitVec 32 := 3#32
  let v29 : BitVec 32 := Scalar.subi c3_i32_17 v26
  let v30 : BitVec 32 := Scalar.select v28 v26 v29
  let v31 : BitVec 32 := Scalar.muli c4_i32_18 v30
  let v32 : BitVec 32 := Scalar.addi v25 v31
  let c1_i32_364 : BitVec 32 := 1#32
  let v410 : BitVec 32 := Scalar.muli v32 c1_i32_364
  let v411 : BitVec 32 := Scalar.addi c0_i32_365 v410
  v411.toNat
def k0_dev13 (d0 : Dev nD) : Nat :=
  let c0_i32_403 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_2 : BitVec 32 := 1#32
  let v11 : BitVec 32 := Scalar.addi v10 c1_i32_2
  let c32_i32 : BitVec 32 := 32#32
  let v12 : BitVec 32 := Scalar.addi v11 c32_i32
  let c16_i32_3 : BitVec 32 := 16#32
  let v13 : BitVec 32 := Scalar.remsi v12 c16_i32_3
  let c4_i32_4 : BitVec 32 := 4#32
  let v14 : BitVec 32 := Scalar.divsi v13 c4_i32_4
  let c4_i32_9 : BitVec 32 := 4#32
  let c2_i32_6 : BitVec 32 := 2#32
  let v16 : BitVec 32 := Scalar.remsi v14 c2_i32_6
  let c0_i32_7 : BitVec 32 := 0#32
  let v17 : BitVec 1 := Scalar.cmpi .eq v16 c0_i32_7
  let c4_i32_5 : BitVec 32 := 4#32
  let v15 : BitVec 32 := Scalar.remsi v13 c4_i32_5
  let c3_i32_8 : BitVec 32 := 3#32
  let v18 : BitVec 32 := Scalar.subi c3_i32_8 v15
  let v19 : BitVec 32 := Scalar.select v17 v15 v18
  let v20 : BitVec 32 := Scalar.muli c4_i32_9 v19
  let v21 : BitVec 32 := Scalar.addi v14 v20
  let c1_i32_402 : BitVec 32 := 1#32
  let v450 : BitVec 32 := Scalar.muli v21 c1_i32_402
  let v451 : BitVec 32 := Scalar.addi c0_i32_403 v450
  v451.toNat
def k0_dev14 (d0 : Dev nD) : Nat :=
  let c0_i32_441 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_10 : BitVec 32 := 1#32
  let v22 : BitVec 32 := Scalar.subi v10 c1_i32_10
  let c32_i32_11 : BitVec 32 := 32#32
  let v23 : BitVec 32 := Scalar.addi v22 c32_i32_11
  let c16_i32_12 : BitVec 32 := 16#32
  let v24 : BitVec 32 := Scalar.remsi v23 c16_i32_12
  let c4_i32_13 : BitVec 32 := 4#32
  let v25 : BitVec 32 := Scalar.divsi v24 c4_i32_13
  let c4_i32_18 : BitVec 32 := 4#32
  let c2_i32_15 : BitVec 32 := 2#32
  let v27 : BitVec 32 := Scalar.remsi v25 c2_i32_15
  let c0_i32_16 : BitVec 32 := 0#32
  let v28 : BitVec 1 := Scalar.cmpi .eq v27 c0_i32_16
  let c4_i32_14 : BitVec 32 := 4#32
  let v26 : BitVec 32 := Scalar.remsi v24 c4_i32_14
  let c3_i32_17 : BitVec 32 := 3#32
  let v29 : BitVec 32 := Scalar.subi c3_i32_17 v26
  let v30 : BitVec 32 := Scalar.select v28 v26 v29
  let v31 : BitVec 32 := Scalar.muli c4_i32_18 v30
  let v32 : BitVec 32 := Scalar.addi v25 v31
  let c1_i32_440 : BitVec 32 := 1#32
  let v490 : BitVec 32 := Scalar.muli v32 c1_i32_440
  let v491 : BitVec 32 := Scalar.addi c0_i32_441 v490
  v491.toNat
def k0_dev15 (d0 : Dev nD) : Nat :=
  let c0_i32_506 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_2 : BitVec 32 := 1#32
  let v11 : BitVec 32 := Scalar.addi v10 c1_i32_2
  let c32_i32 : BitVec 32 := 32#32
  let v12 : BitVec 32 := Scalar.addi v11 c32_i32
  let c16_i32_3 : BitVec 32 := 16#32
  let v13 : BitVec 32 := Scalar.remsi v12 c16_i32_3
  let c4_i32_4 : BitVec 32 := 4#32
  let v14 : BitVec 32 := Scalar.divsi v13 c4_i32_4
  let c4_i32_9 : BitVec 32 := 4#32
  let c2_i32_6 : BitVec 32 := 2#32
  let v16 : BitVec 32 := Scalar.remsi v14 c2_i32_6
  let c0_i32_7 : BitVec 32 := 0#32
  let v17 : BitVec 1 := Scalar.cmpi .eq v16 c0_i32_7
  let c4_i32_5 : BitVec 32 := 4#32
  let v15 : BitVec 32 := Scalar.remsi v13 c4_i32_5
  let c3_i32_8 : BitVec 32 := 3#32
  let v18 : BitVec 32 := Scalar.subi c3_i32_8 v15
  let v19 : BitVec 32 := Scalar.select v17 v15 v18
  let v20 : BitVec 32 := Scalar.muli c4_i32_9 v19
  let v21 : BitVec 32 := Scalar.addi v14 v20
  let c1_i32_505 : BitVec 32 := 1#32
  let v564 : BitVec 32 := Scalar.muli v21 c1_i32_505
  let v565 : BitVec 32 := Scalar.addi c0_i32_506 v564
  v565.toNat
def k0_dev16 (d0 : Dev nD) : Nat :=
  let c0_i32_544 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_10 : BitVec 32 := 1#32
  let v22 : BitVec 32 := Scalar.subi v10 c1_i32_10
  let c32_i32_11 : BitVec 32 := 32#32
  let v23 : BitVec 32 := Scalar.addi v22 c32_i32_11
  let c16_i32_12 : BitVec 32 := 16#32
  let v24 : BitVec 32 := Scalar.remsi v23 c16_i32_12
  let c4_i32_13 : BitVec 32 := 4#32
  let v25 : BitVec 32 := Scalar.divsi v24 c4_i32_13
  let c4_i32_18 : BitVec 32 := 4#32
  let c2_i32_15 : BitVec 32 := 2#32
  let v27 : BitVec 32 := Scalar.remsi v25 c2_i32_15
  let c0_i32_16 : BitVec 32 := 0#32
  let v28 : BitVec 1 := Scalar.cmpi .eq v27 c0_i32_16
  let c4_i32_14 : BitVec 32 := 4#32
  let v26 : BitVec 32 := Scalar.remsi v24 c4_i32_14
  let c3_i32_17 : BitVec 32 := 3#32
  let v29 : BitVec 32 := Scalar.subi c3_i32_17 v26
  let v30 : BitVec 32 := Scalar.select v28 v26 v29
  let v31 : BitVec 32 := Scalar.muli c4_i32_18 v30
  let v32 : BitVec 32 := Scalar.addi v25 v31
  let c1_i32_543 : BitVec 32 := 1#32
  let v604 : BitVec 32 := Scalar.muli v32 c1_i32_543
  let v605 : BitVec 32 := Scalar.addi c0_i32_544 v604
  v605.toNat
def k0_dev17 (d0 : Dev nD) : Nat :=
  let c0_i32_582 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_2 : BitVec 32 := 1#32
  let v11 : BitVec 32 := Scalar.addi v10 c1_i32_2
  let c32_i32 : BitVec 32 := 32#32
  let v12 : BitVec 32 := Scalar.addi v11 c32_i32
  let c16_i32_3 : BitVec 32 := 16#32
  let v13 : BitVec 32 := Scalar.remsi v12 c16_i32_3
  let c4_i32_4 : BitVec 32 := 4#32
  let v14 : BitVec 32 := Scalar.divsi v13 c4_i32_4
  let c4_i32_9 : BitVec 32 := 4#32
  let c2_i32_6 : BitVec 32 := 2#32
  let v16 : BitVec 32 := Scalar.remsi v14 c2_i32_6
  let c0_i32_7 : BitVec 32 := 0#32
  let v17 : BitVec 1 := Scalar.cmpi .eq v16 c0_i32_7
  let c4_i32_5 : BitVec 32 := 4#32
  let v15 : BitVec 32 := Scalar.remsi v13 c4_i32_5
  let c3_i32_8 : BitVec 32 := 3#32
  let v18 : BitVec 32 := Scalar.subi c3_i32_8 v15
  let v19 : BitVec 32 := Scalar.select v17 v15 v18
  let v20 : BitVec 32 := Scalar.muli c4_i32_9 v19
  let v21 : BitVec 32 := Scalar.addi v14 v20
  let c1_i32_581 : BitVec 32 := 1#32
  let v644 : BitVec 32 := Scalar.muli v21 c1_i32_581
  let v645 : BitVec 32 := Scalar.addi c0_i32_582 v644
  v645.toNat
def k0_dev18 (d0 : Dev nD) : Nat :=
  let c0_i32_620 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_10 : BitVec 32 := 1#32
  let v22 : BitVec 32 := Scalar.subi v10 c1_i32_10
  let c32_i32_11 : BitVec 32 := 32#32
  let v23 : BitVec 32 := Scalar.addi v22 c32_i32_11
  let c16_i32_12 : BitVec 32 := 16#32
  let v24 : BitVec 32 := Scalar.remsi v23 c16_i32_12
  let c4_i32_13 : BitVec 32 := 4#32
  let v25 : BitVec 32 := Scalar.divsi v24 c4_i32_13
  let c4_i32_18 : BitVec 32 := 4#32
  let c2_i32_15 : BitVec 32 := 2#32
  let v27 : BitVec 32 := Scalar.remsi v25 c2_i32_15
  let c0_i32_16 : BitVec 32 := 0#32
  let v28 : BitVec 1 := Scalar.cmpi .eq v27 c0_i32_16
  let c4_i32_14 : BitVec 32 := 4#32
  let v26 : BitVec 32 := Scalar.remsi v24 c4_i32_14
  let c3_i32_17 : BitVec 32 := 3#32
  let v29 : BitVec 32 := Scalar.subi c3_i32_17 v26
  let v30 : BitVec 32 := Scalar.select v28 v26 v29
  let v31 : BitVec 32 := Scalar.muli c4_i32_18 v30
  let v32 : BitVec 32 := Scalar.addi v25 v31
  let c1_i32_619 : BitVec 32 := 1#32
  let v684 : BitVec 32 := Scalar.muli v32 c1_i32_619
  let v685 : BitVec 32 := Scalar.addi c0_i32_620 v684
  v685.toNat
def k0_dev19 (d0 : Dev nD) : Nat :=
  let c0_i32_685 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_2 : BitVec 32 := 1#32
  let v11 : BitVec 32 := Scalar.addi v10 c1_i32_2
  let c32_i32 : BitVec 32 := 32#32
  let v12 : BitVec 32 := Scalar.addi v11 c32_i32
  let c16_i32_3 : BitVec 32 := 16#32
  let v13 : BitVec 32 := Scalar.remsi v12 c16_i32_3
  let c4_i32_4 : BitVec 32 := 4#32
  let v14 : BitVec 32 := Scalar.divsi v13 c4_i32_4
  let c4_i32_9 : BitVec 32 := 4#32
  let c2_i32_6 : BitVec 32 := 2#32
  let v16 : BitVec 32 := Scalar.remsi v14 c2_i32_6
  let c0_i32_7 : BitVec 32 := 0#32
  let v17 : BitVec 1 := Scalar.cmpi .eq v16 c0_i32_7
  let c4_i32_5 : BitVec 32 := 4#32
  let v15 : BitVec 32 := Scalar.remsi v13 c4_i32_5
  let c3_i32_8 : BitVec 32 := 3#32
  let v18 : BitVec 32 := Scalar.subi c3_i32_8 v15
  let v19 : BitVec 32 := Scalar.select v17 v15 v18
  let v20 : BitVec 32 := Scalar.muli c4_i32_9 v19
  let v21 : BitVec 32 := Scalar.addi v14 v20
  let c1_i32_684 : BitVec 32 := 1#32
  let v758 : BitVec 32 := Scalar.muli v21 c1_i32_684
  let v759 : BitVec 32 := Scalar.addi c0_i32_685 v758
  v759.toNat
def k0_dev20 (d0 : Dev nD) : Nat :=
  let c0_i32_723 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_10 : BitVec 32 := 1#32
  let v22 : BitVec 32 := Scalar.subi v10 c1_i32_10
  let c32_i32_11 : BitVec 32 := 32#32
  let v23 : BitVec 32 := Scalar.addi v22 c32_i32_11
  let c16_i32_12 : BitVec 32 := 16#32
  let v24 : BitVec 32 := Scalar.remsi v23 c16_i32_12
  let c4_i32_13 : BitVec 32 := 4#32
  let v25 : BitVec 32 := Scalar.divsi v24 c4_i32_13
  let c4_i32_18 : BitVec 32 := 4#32
  let c2_i32_15 : BitVec 32 := 2#32
  let v27 : BitVec 32 := Scalar.remsi v25 c2_i32_15
  let c0_i32_16 : BitVec 32 := 0#32
  let v28 : BitVec 1 := Scalar.cmpi .eq v27 c0_i32_16
  let c4_i32_14 : BitVec 32 := 4#32
  let v26 : BitVec 32 := Scalar.remsi v24 c4_i32_14
  let c3_i32_17 : BitVec 32 := 3#32
  let v29 : BitVec 32 := Scalar.subi c3_i32_17 v26
  let v30 : BitVec 32 := Scalar.select v28 v26 v29
  let v31 : BitVec 32 := Scalar.muli c4_i32_18 v30
  let v32 : BitVec 32 := Scalar.addi v25 v31
  let c1_i32_722 : BitVec 32 := 1#32
  let v798 : BitVec 32 := Scalar.muli v32 c1_i32_722
  let v799 : BitVec 32 := Scalar.addi c0_i32_723 v798
  v799.toNat
def k0_dev21 (d0 : Dev nD) : Nat :=
  let c0_i32_761 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_2 : BitVec 32 := 1#32
  let v11 : BitVec 32 := Scalar.addi v10 c1_i32_2
  let c32_i32 : BitVec 32 := 32#32
  let v12 : BitVec 32 := Scalar.addi v11 c32_i32
  let c16_i32_3 : BitVec 32 := 16#32
  let v13 : BitVec 32 := Scalar.remsi v12 c16_i32_3
  let c4_i32_4 : BitVec 32 := 4#32
  let v14 : BitVec 32 := Scalar.divsi v13 c4_i32_4
  let c4_i32_9 : BitVec 32 := 4#32
  let c2_i32_6 : BitVec 32 := 2#32
  let v16 : BitVec 32 := Scalar.remsi v14 c2_i32_6
  let c0_i32_7 : BitVec 32 := 0#32
  let v17 : BitVec 1 := Scalar.cmpi .eq v16 c0_i32_7
  let c4_i32_5 : BitVec 32 := 4#32
  let v15 : BitVec 32 := Scalar.remsi v13 c4_i32_5
  let c3_i32_8 : BitVec 32 := 3#32
  let v18 : BitVec 32 := Scalar.subi c3_i32_8 v15
  let v19 : BitVec 32 := Scalar.select v17 v15 v18
  let v20 : BitVec 32 := Scalar.muli c4_i32_9 v19
  let v21 : BitVec 32 := Scalar.addi v14 v20
  let c1_i32_760 : BitVec 32 := 1#32
  let v838 : BitVec 32 := Scalar.muli v21 c1_i32_760
  let v839 : BitVec 32 := Scalar.addi c0_i32_761 v838
  v839.toNat
def k0_dev22 (d0 : Dev nD) : Nat :=
  let c0_i32_799 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_10 : BitVec 32 := 1#32
  let v22 : BitVec 32 := Scalar.subi v10 c1_i32_10
  let c32_i32_11 : BitVec 32 := 32#32
  let v23 : BitVec 32 := Scalar.addi v22 c32_i32_11
  let c16_i32_12 : BitVec 32 := 16#32
  let v24 : BitVec 32 := Scalar.remsi v23 c16_i32_12
  let c4_i32_13 : BitVec 32 := 4#32
  let v25 : BitVec 32 := Scalar.divsi v24 c4_i32_13
  let c4_i32_18 : BitVec 32 := 4#32
  let c2_i32_15 : BitVec 32 := 2#32
  let v27 : BitVec 32 := Scalar.remsi v25 c2_i32_15
  let c0_i32_16 : BitVec 32 := 0#32
  let v28 : BitVec 1 := Scalar.cmpi .eq v27 c0_i32_16
  let c4_i32_14 : BitVec 32 := 4#32
  let v26 : BitVec 32 := Scalar.remsi v24 c4_i32_14
  let c3_i32_17 : BitVec 32 := 3#32
  let v29 : BitVec 32 := Scalar.subi c3_i32_17 v26
  let v30 : BitVec 32 := Scalar.select v28 v26 v29
  let v31 : BitVec 32 := Scalar.muli c4_i32_18 v30
  let v32 : BitVec 32 := Scalar.addi v25 v31
  let c1_i32_798 : BitVec 32 := 1#32
  let v878 : BitVec 32 := Scalar.muli v32 c1_i32_798
  let v879 : BitVec 32 := Scalar.addi c0_i32_799 v878
  v879.toNat
def k0_dev23 (d0 : Dev nD) : Nat :=
  let c0_i32_863 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_2 : BitVec 32 := 1#32
  let v11 : BitVec 32 := Scalar.addi v10 c1_i32_2
  let c32_i32 : BitVec 32 := 32#32
  let v12 : BitVec 32 := Scalar.addi v11 c32_i32
  let c16_i32_3 : BitVec 32 := 16#32
  let v13 : BitVec 32 := Scalar.remsi v12 c16_i32_3
  let c4_i32_4 : BitVec 32 := 4#32
  let v14 : BitVec 32 := Scalar.divsi v13 c4_i32_4
  let c4_i32_9 : BitVec 32 := 4#32
  let c2_i32_6 : BitVec 32 := 2#32
  let v16 : BitVec 32 := Scalar.remsi v14 c2_i32_6
  let c0_i32_7 : BitVec 32 := 0#32
  let v17 : BitVec 1 := Scalar.cmpi .eq v16 c0_i32_7
  let c4_i32_5 : BitVec 32 := 4#32
  let v15 : BitVec 32 := Scalar.remsi v13 c4_i32_5
  let c3_i32_8 : BitVec 32 := 3#32
  let v18 : BitVec 32 := Scalar.subi c3_i32_8 v15
  let v19 : BitVec 32 := Scalar.select v17 v15 v18
  let v20 : BitVec 32 := Scalar.muli c4_i32_9 v19
  let v21 : BitVec 32 := Scalar.addi v14 v20
  let c1_i32_862 : BitVec 32 := 1#32
  let v952 : BitVec 32 := Scalar.muli v21 c1_i32_862
  let v953 : BitVec 32 := Scalar.addi c0_i32_863 v952
  v953.toNat
def k0_dev24 (d0 : Dev nD) : Nat :=
  let c0_i32_901 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_10 : BitVec 32 := 1#32
  let v22 : BitVec 32 := Scalar.subi v10 c1_i32_10
  let c32_i32_11 : BitVec 32 := 32#32
  let v23 : BitVec 32 := Scalar.addi v22 c32_i32_11
  let c16_i32_12 : BitVec 32 := 16#32
  let v24 : BitVec 32 := Scalar.remsi v23 c16_i32_12
  let c4_i32_13 : BitVec 32 := 4#32
  let v25 : BitVec 32 := Scalar.divsi v24 c4_i32_13
  let c4_i32_18 : BitVec 32 := 4#32
  let c2_i32_15 : BitVec 32 := 2#32
  let v27 : BitVec 32 := Scalar.remsi v25 c2_i32_15
  let c0_i32_16 : BitVec 32 := 0#32
  let v28 : BitVec 1 := Scalar.cmpi .eq v27 c0_i32_16
  let c4_i32_14 : BitVec 32 := 4#32
  let v26 : BitVec 32 := Scalar.remsi v24 c4_i32_14
  let c3_i32_17 : BitVec 32 := 3#32
  let v29 : BitVec 32 := Scalar.subi c3_i32_17 v26
  let v30 : BitVec 32 := Scalar.select v28 v26 v29
  let v31 : BitVec 32 := Scalar.muli c4_i32_18 v30
  let v32 : BitVec 32 := Scalar.addi v25 v31
  let c1_i32_900 : BitVec 32 := 1#32
  let v992 : BitVec 32 := Scalar.muli v32 c1_i32_900
  let v993 : BitVec 32 := Scalar.addi c0_i32_901 v992
  v993.toNat
def k0_dev25 (d0 : Dev nD) : Nat :=
  let c0_i32_939 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_2 : BitVec 32 := 1#32
  let v11 : BitVec 32 := Scalar.addi v10 c1_i32_2
  let c32_i32 : BitVec 32 := 32#32
  let v12 : BitVec 32 := Scalar.addi v11 c32_i32
  let c16_i32_3 : BitVec 32 := 16#32
  let v13 : BitVec 32 := Scalar.remsi v12 c16_i32_3
  let c4_i32_4 : BitVec 32 := 4#32
  let v14 : BitVec 32 := Scalar.divsi v13 c4_i32_4
  let c4_i32_9 : BitVec 32 := 4#32
  let c2_i32_6 : BitVec 32 := 2#32
  let v16 : BitVec 32 := Scalar.remsi v14 c2_i32_6
  let c0_i32_7 : BitVec 32 := 0#32
  let v17 : BitVec 1 := Scalar.cmpi .eq v16 c0_i32_7
  let c4_i32_5 : BitVec 32 := 4#32
  let v15 : BitVec 32 := Scalar.remsi v13 c4_i32_5
  let c3_i32_8 : BitVec 32 := 3#32
  let v18 : BitVec 32 := Scalar.subi c3_i32_8 v15
  let v19 : BitVec 32 := Scalar.select v17 v15 v18
  let v20 : BitVec 32 := Scalar.muli c4_i32_9 v19
  let v21 : BitVec 32 := Scalar.addi v14 v20
  let c1_i32_938 : BitVec 32 := 1#32
  let v1032 : BitVec 32 := Scalar.muli v21 c1_i32_938
  let v1033 : BitVec 32 := Scalar.addi c0_i32_939 v1032
  v1033.toNat
def k0_dev26 (d0 : Dev nD) : Nat :=
  let c0_i32_977 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_10 : BitVec 32 := 1#32
  let v22 : BitVec 32 := Scalar.subi v10 c1_i32_10
  let c32_i32_11 : BitVec 32 := 32#32
  let v23 : BitVec 32 := Scalar.addi v22 c32_i32_11
  let c16_i32_12 : BitVec 32 := 16#32
  let v24 : BitVec 32 := Scalar.remsi v23 c16_i32_12
  let c4_i32_13 : BitVec 32 := 4#32
  let v25 : BitVec 32 := Scalar.divsi v24 c4_i32_13
  let c4_i32_18 : BitVec 32 := 4#32
  let c2_i32_15 : BitVec 32 := 2#32
  let v27 : BitVec 32 := Scalar.remsi v25 c2_i32_15
  let c0_i32_16 : BitVec 32 := 0#32
  let v28 : BitVec 1 := Scalar.cmpi .eq v27 c0_i32_16
  let c4_i32_14 : BitVec 32 := 4#32
  let v26 : BitVec 32 := Scalar.remsi v24 c4_i32_14
  let c3_i32_17 : BitVec 32 := 3#32
  let v29 : BitVec 32 := Scalar.subi c3_i32_17 v26
  let v30 : BitVec 32 := Scalar.select v28 v26 v29
  let v31 : BitVec 32 := Scalar.muli c4_i32_18 v30
  let v32 : BitVec 32 := Scalar.addi v25 v31
  let c1_i32_976 : BitVec 32 := 1#32
  let v1072 : BitVec 32 := Scalar.muli v32 c1_i32_976
  let v1073 : BitVec 32 := Scalar.addi c0_i32_977 v1072
  v1073.toNat
def k0_dev27 (d0 : Dev nD) : Nat :=
  let c0_i32_1041 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_2 : BitVec 32 := 1#32
  let v11 : BitVec 32 := Scalar.addi v10 c1_i32_2
  let c32_i32 : BitVec 32 := 32#32
  let v12 : BitVec 32 := Scalar.addi v11 c32_i32
  let c16_i32_3 : BitVec 32 := 16#32
  let v13 : BitVec 32 := Scalar.remsi v12 c16_i32_3
  let c4_i32_4 : BitVec 32 := 4#32
  let v14 : BitVec 32 := Scalar.divsi v13 c4_i32_4
  let c4_i32_9 : BitVec 32 := 4#32
  let c2_i32_6 : BitVec 32 := 2#32
  let v16 : BitVec 32 := Scalar.remsi v14 c2_i32_6
  let c0_i32_7 : BitVec 32 := 0#32
  let v17 : BitVec 1 := Scalar.cmpi .eq v16 c0_i32_7
  let c4_i32_5 : BitVec 32 := 4#32
  let v15 : BitVec 32 := Scalar.remsi v13 c4_i32_5
  let c3_i32_8 : BitVec 32 := 3#32
  let v18 : BitVec 32 := Scalar.subi c3_i32_8 v15
  let v19 : BitVec 32 := Scalar.select v17 v15 v18
  let v20 : BitVec 32 := Scalar.muli c4_i32_9 v19
  let v21 : BitVec 32 := Scalar.addi v14 v20
  let c1_i32_1040 : BitVec 32 := 1#32
  let v1146 : BitVec 32 := Scalar.muli v21 c1_i32_1040
  let v1147 : BitVec 32 := Scalar.addi c0_i32_1041 v1146
  v1147.toNat
def k0_dev28 (d0 : Dev nD) : Nat :=
  let c0_i32_1079 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_10 : BitVec 32 := 1#32
  let v22 : BitVec 32 := Scalar.subi v10 c1_i32_10
  let c32_i32_11 : BitVec 32 := 32#32
  let v23 : BitVec 32 := Scalar.addi v22 c32_i32_11
  let c16_i32_12 : BitVec 32 := 16#32
  let v24 : BitVec 32 := Scalar.remsi v23 c16_i32_12
  let c4_i32_13 : BitVec 32 := 4#32
  let v25 : BitVec 32 := Scalar.divsi v24 c4_i32_13
  let c4_i32_18 : BitVec 32 := 4#32
  let c2_i32_15 : BitVec 32 := 2#32
  let v27 : BitVec 32 := Scalar.remsi v25 c2_i32_15
  let c0_i32_16 : BitVec 32 := 0#32
  let v28 : BitVec 1 := Scalar.cmpi .eq v27 c0_i32_16
  let c4_i32_14 : BitVec 32 := 4#32
  let v26 : BitVec 32 := Scalar.remsi v24 c4_i32_14
  let c3_i32_17 : BitVec 32 := 3#32
  let v29 : BitVec 32 := Scalar.subi c3_i32_17 v26
  let v30 : BitVec 32 := Scalar.select v28 v26 v29
  let v31 : BitVec 32 := Scalar.muli c4_i32_18 v30
  let v32 : BitVec 32 := Scalar.addi v25 v31
  let c1_i32_1078 : BitVec 32 := 1#32
  let v1186 : BitVec 32 := Scalar.muli v32 c1_i32_1078
  let v1187 : BitVec 32 := Scalar.addi c0_i32_1079 v1186
  v1187.toNat
def k0_dev29 (d0 : Dev nD) : Nat :=
  let c0_i32_1117 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_2 : BitVec 32 := 1#32
  let v11 : BitVec 32 := Scalar.addi v10 c1_i32_2
  let c32_i32 : BitVec 32 := 32#32
  let v12 : BitVec 32 := Scalar.addi v11 c32_i32
  let c16_i32_3 : BitVec 32 := 16#32
  let v13 : BitVec 32 := Scalar.remsi v12 c16_i32_3
  let c4_i32_4 : BitVec 32 := 4#32
  let v14 : BitVec 32 := Scalar.divsi v13 c4_i32_4
  let c4_i32_9 : BitVec 32 := 4#32
  let c2_i32_6 : BitVec 32 := 2#32
  let v16 : BitVec 32 := Scalar.remsi v14 c2_i32_6
  let c0_i32_7 : BitVec 32 := 0#32
  let v17 : BitVec 1 := Scalar.cmpi .eq v16 c0_i32_7
  let c4_i32_5 : BitVec 32 := 4#32
  let v15 : BitVec 32 := Scalar.remsi v13 c4_i32_5
  let c3_i32_8 : BitVec 32 := 3#32
  let v18 : BitVec 32 := Scalar.subi c3_i32_8 v15
  let v19 : BitVec 32 := Scalar.select v17 v15 v18
  let v20 : BitVec 32 := Scalar.muli c4_i32_9 v19
  let v21 : BitVec 32 := Scalar.addi v14 v20
  let c1_i32_1116 : BitVec 32 := 1#32
  let v1226 : BitVec 32 := Scalar.muli v21 c1_i32_1116
  let v1227 : BitVec 32 := Scalar.addi c0_i32_1117 v1226
  v1227.toNat
def k0_dev30 (d0 : Dev nD) : Nat :=
  let c0_i32_1155 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_10 : BitVec 32 := 1#32
  let v22 : BitVec 32 := Scalar.subi v10 c1_i32_10
  let c32_i32_11 : BitVec 32 := 32#32
  let v23 : BitVec 32 := Scalar.addi v22 c32_i32_11
  let c16_i32_12 : BitVec 32 := 16#32
  let v24 : BitVec 32 := Scalar.remsi v23 c16_i32_12
  let c4_i32_13 : BitVec 32 := 4#32
  let v25 : BitVec 32 := Scalar.divsi v24 c4_i32_13
  let c4_i32_18 : BitVec 32 := 4#32
  let c2_i32_15 : BitVec 32 := 2#32
  let v27 : BitVec 32 := Scalar.remsi v25 c2_i32_15
  let c0_i32_16 : BitVec 32 := 0#32
  let v28 : BitVec 1 := Scalar.cmpi .eq v27 c0_i32_16
  let c4_i32_14 : BitVec 32 := 4#32
  let v26 : BitVec 32 := Scalar.remsi v24 c4_i32_14
  let c3_i32_17 : BitVec 32 := 3#32
  let v29 : BitVec 32 := Scalar.subi c3_i32_17 v26
  let v30 : BitVec 32 := Scalar.select v28 v26 v29
  let v31 : BitVec 32 := Scalar.muli c4_i32_18 v30
  let v32 : BitVec 32 := Scalar.addi v25 v31
  let c1_i32_1154 : BitVec 32 := 1#32
  let v1266 : BitVec 32 := Scalar.muli v32 c1_i32_1154
  let v1267 : BitVec 32 := Scalar.addi c0_i32_1155 v1266
  v1267.toNat
def k0_dev31 (d0 : Dev nD) : Nat :=
  let c0_i32_1219 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_2 : BitVec 32 := 1#32
  let v11 : BitVec 32 := Scalar.addi v10 c1_i32_2
  let c32_i32 : BitVec 32 := 32#32
  let v12 : BitVec 32 := Scalar.addi v11 c32_i32
  let c16_i32_3 : BitVec 32 := 16#32
  let v13 : BitVec 32 := Scalar.remsi v12 c16_i32_3
  let c4_i32_4 : BitVec 32 := 4#32
  let v14 : BitVec 32 := Scalar.divsi v13 c4_i32_4
  let c4_i32_9 : BitVec 32 := 4#32
  let c2_i32_6 : BitVec 32 := 2#32
  let v16 : BitVec 32 := Scalar.remsi v14 c2_i32_6
  let c0_i32_7 : BitVec 32 := 0#32
  let v17 : BitVec 1 := Scalar.cmpi .eq v16 c0_i32_7
  let c4_i32_5 : BitVec 32 := 4#32
  let v15 : BitVec 32 := Scalar.remsi v13 c4_i32_5
  let c3_i32_8 : BitVec 32 := 3#32
  let v18 : BitVec 32 := Scalar.subi c3_i32_8 v15
  let v19 : BitVec 32 := Scalar.select v17 v15 v18
  let v20 : BitVec 32 := Scalar.muli c4_i32_9 v19
  let v21 : BitVec 32 := Scalar.addi v14 v20
  let c1_i32_1218 : BitVec 32 := 1#32
  let v1340 : BitVec 32 := Scalar.muli v21 c1_i32_1218
  let v1341 : BitVec 32 := Scalar.addi c0_i32_1219 v1340
  v1341.toNat
def k0_dev32 (d0 : Dev nD) : Nat :=
  let c0_i32_1257 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v7 : BitVec 32 := Scalar.muli c4_i32_1 v3
  let c2_i32 : BitVec 32 := 2#32
  let v5 : BitVec 32 := Scalar.remsi v3 c2_i32
  let c0_i32 : BitVec 32 := 0#32
  let v6 : BitVec 1 := Scalar.cmpi .eq v5 c0_i32
  let c4_i32_0 : BitVec 32 := 4#32
  let v4 : BitVec 32 := Scalar.divsi v2 c4_i32_0
  let c3_i32 : BitVec 32 := 3#32
  let v8 : BitVec 32 := Scalar.subi c3_i32 v4
  let v9 : BitVec 32 := Scalar.select v6 v4 v8
  let v10 : BitVec 32 := Scalar.addi v7 v9
  let c1_i32_10 : BitVec 32 := 1#32
  let v22 : BitVec 32 := Scalar.subi v10 c1_i32_10
  let c32_i32_11 : BitVec 32 := 32#32
  let v23 : BitVec 32 := Scalar.addi v22 c32_i32_11
  let c16_i32_12 : BitVec 32 := 16#32
  let v24 : BitVec 32 := Scalar.remsi v23 c16_i32_12
  let c4_i32_13 : BitVec 32 := 4#32
  let v25 : BitVec 32 := Scalar.divsi v24 c4_i32_13
  let c4_i32_18 : BitVec 32 := 4#32
  let c2_i32_15 : BitVec 32 := 2#32
  let v27 : BitVec 32 := Scalar.remsi v25 c2_i32_15
  let c0_i32_16 : BitVec 32 := 0#32
  let v28 : BitVec 1 := Scalar.cmpi .eq v27 c0_i32_16
  let c4_i32_14 : BitVec 32 := 4#32
  let v26 : BitVec 32 := Scalar.remsi v24 c4_i32_14
  let c3_i32_17 : BitVec 32 := 3#32
  let v29 : BitVec 32 := Scalar.subi c3_i32_17 v26
  let v30 : BitVec 32 := Scalar.select v28 v26 v29
  let v31 : BitVec 32 := Scalar.muli c4_i32_18 v30
  let v32 : BitVec 32 := Scalar.addi v25 v31
  let c1_i32_1256 : BitVec 32 := 1#32
  let v1380 : BitVec 32 := Scalar.muli v32 c1_i32_1256
  let v1381 : BitVec 32 := Scalar.addi c0_i32_1257 v1380
  v1381.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== Reference.lean ====
abbrev S8192x512 : Shape := ⟨2, ![8192, 512]⟩

abbrev nBuf : Space → Nat
  | .hbm => 1
  | .vmem => 0
  | .smem => 0
  | _ => 0

abbrev bufTy : (tb : Table) → Fin (tcTables nBuf tb) → BufTy
  | .hbm, ⟨0, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Ring.lean ====
/-
# 01_k — the ring of devices and the half blocks it carries

The kernel walks the sixteen devices in a fixed cyclic order. This module gives that order, says which half block (256
rows of the gathered array) a transfer, an arrival or a copy names, and evaluates the offsets and device numbers of the
printed kernel to it. Everything here is arithmetic over sixteen devices, decided.

A direction is a `Bool`: `false` goes to the next device of the ring, `true` to the previous one. In each direction a
device names seventeen half blocks, number `n` being half `seg d n` of the block of the device `n / 2` steps back along
that direction.
-/
module

public import proofs.«01_k».proof.Proof.Gen.KernelIdeal

@[expose] public section

namespace Cert.Gather

open Cert.KernelIdeal Cert.KernelIdeal.Gen
open Idealize.ShloMosaic

/-- The place of device `c` in the cyclic order: up and down the columns of the four by four grid. -/
def pos (c : ℕ) : ℕ := 4 * (c % 4) + (if c % 4 % 2 = 0 then c / 4 else 3 - c / 4)

/-- The device at place `p` (places count modulo sixteen). -/
def ringAt (p : ℕ) : ℕ := p % 16 / 4 + 4 * (if p % 16 / 4 % 2 = 0 then p % 16 % 4 else 3 - p % 16 % 4)

theorem ringAt_lt (p : ℕ) : ringAt p < 16 := by unfold ringAt; split <;> omega

/-- The neighbour that direction `d` sends to. -/
def nb (d : Bool) (c : Dev nD) : Dev nD := ⟨ringAt (pos c.val + if d then 15 else 1), ringAt_lt _⟩

/-- The block whose halves are named `2 * h` and `2 * h + 1` on device `c`: that of the device `h` steps back. -/
def blk (d : Bool) (h : ℕ) (c : Dev nD) : ℕ := ringAt (pos c.val + if d then h else 15 * h)

/-- Which half of the block is named by `n`: the backward direction takes the second half first. -/
def seg (d : Bool) (n : ℕ) : ℕ := if d then 1 - n % 2 else n % 2

/-- The half block (of thirty-two) that number `n` names on device `c`. -/
def half (d : Bool) (n : ℕ) (c : Dev nD) : ℕ := 2 * blk d (n / 2) c + seg d n

theorem half_lt (d : Bool) (n : ℕ) (c : Dev nD) : half d n c < 32 := by
  have h1 : blk d (n / 2) c < 16 := ringAt_lt _
  have h2 : seg d n < 2 := by unfold seg; split <;> omega
  unfold half; omega

/-- Going one way and then the other is staying. -/
theorem nb_nb (d : Bool) (c : Dev nD) : nb (!d) (nb d c) = c := by revert d c; decide
theorem nb_nb' (d : Bool) (c : Dev nD) : nb d (nb (!d) c) = c := by revert d c; decide
theorem nb_ne (c : Dev nD) : nb false c ≠ nb true c := by revert c; decide

/-- Direction `d`'s neighbour map as a permutation of the devices. -/
def turn (d : Bool) : Dev nD ≃ Dev nD := ⟨nb d, nb (!d), nb_nb d, nb_nb' d⟩

/-- What a device sends as its number `n`, the receiver names `n + 2`. -/
theorem half_step (d : Bool) (n : ℕ) (c : Dev nD) : half d (n + 2) (nb d c) = half d n c := by
  have hb : ∀ d : Bool, ∀ h : Fin 16, ∀ c : Dev nD, blk d (h.val + 1) (nb d c) = blk d h.val c := by decide +kernel
  have hm : ∀ (d : Bool) (h : ℕ) (c : Dev nD), blk d h c = blk d (h % 16) c := by
    intro d h c
    unfold blk ringAt
    cases d
    · have : (pos c.val + 15 * h) % 16 = (pos c.val + 15 * (h % 16)) % 16 := by omega
      simp only [Bool.false_eq_true, if_false, this]
    · have : (pos c.val + h) % 16 = (pos c.val + h % 16) % 16 := by omega
      simp only [if_true, this]
  have hb' : ∀ (d : Bool) (h : ℕ) (c : Dev nD), blk d (h + 1) (nb d c) = blk d h c := by
    intro d h c
    rw [hm d (h + 1), hm d h, ← hb d ⟨h % 16, Nat.mod_lt _ (by decide)⟩ c, hm d (h % 16 + 1)]
    congr 1; omega
  have hs : seg d (n + 2) = seg d n := by unfold seg; rw [Nat.add_mod_right]
  unfold half
  rw [hs, show (n + 2) / 2 = n / 2 + 1 by omega, hb']

/-! ## The thirty-two half blocks of one device's buffer -/

/-- A device's half blocks, each once: its own two (named 0 and 1), and in each direction the fifteen that arrive
    (named 2 to 16). -/
abbrev Piece : Type := Fin 2 ⊕ (Bool × Fin 15)

/-- The half block of a piece. -/
def pieceHalf (c : Dev nD) : Piece → ℕ
  | .inl s => half false s.val c
  | .inr (d, n) => half d (n.val + 2) c

theorem pieceHalf_inj (c : Dev nD) : Function.Injective (pieceHalf c) := by
  have h : ∀ c : Dev nD, ∀ p q : Piece, pieceHalf c p = pieceHalf c q → p = q := by decide +kernel
  exact fun p q => h c p q

theorem pieceHalf_surj (c : Dev nD) : ∀ u : Fin 32, ∃ p : Piece, pieceHalf c p = u.val := by
  revert c; decide +kernel

/-- The two directions name a device's own block alike, its halves in opposite order. -/
theorem own_half (c : Dev nD) : half true 1 c = half false 0 c ∧ half true 0 c = half false 1 c := by revert c; decide
theorem own_blk (d : Bool) (c : Dev nD) : blk d 0 c = c.val := by revert d c; decide

/-! ## The copies into the result -/

/-- The seventeen copies in the order they start: the own block, then in turn the blocks that came forward and
    backward, and last the two half blocks of the device opposite. -/
abbrev copyDir (i : ℕ) : Bool := decide (i % 2 = 0)

/-- The block a whole-block copy moves (`i ≤ 14`). -/
def copyBlk (i : ℕ) (c : Dev nD) : ℕ := blk (copyDir i) ((i + 1) / 2) c

/-- The half blocks that copy `i` moves. -/
def copyHalves (i : ℕ) (c : Dev nD) : Finset ℕ :=
  if i < 15 then {2 * copyBlk i c, 2 * copyBlk i c + 1} else {half (copyDir i) 16 c}

theorem copyHalves_disjoint (c : Dev nD) : ∀ i j : Fin 17, i ≠ j → Disjoint (copyHalves i c) (copyHalves j c) := by
  revert c; decide +kernel

theorem copyHalves_cover (c : Dev nD) : ∀ u : Fin 32, ∃ i : Fin 17, u.val ∈ copyHalves i c := by
  revert c; decide +kernel

/-! ## The printed offsets and devices -/

theorem off1_eq (c : Dev nD) : ∀ r : Fin 2, k0_off1 c (BitVec.ofNat 32 (256 * r.val)) = ![256 * half false r.val c, 0] := by
  revert c; decide +kernel
theorem off2_eq (c : Dev nD) : k0_off2 c = ![512 * copyBlk 0 c, 0] := by revert c; decide +kernel
theorem off3_eq (c : Dev nD) : ∀ n : Fin 17, k0_off3 c (k0_off3_at n).1 (k0_off3_at n).2 = ![256 * half false n.val c, 0] := by
  revert c; decide +kernel
theorem off4_eq (c : Dev nD) : ∀ n : Fin 17, k0_off4 c (k0_off4_at n).1 (k0_off4_at n).2 = ![256 * half true n.val c, 0] := by
  revert c; decide +kernel
theorem off5_eq (c : Dev nD) : ∀ r : Fin 7, k0_off5 c (BitVec.ofNat 32 (1 + r.val)) = ![512 * copyBlk (2 * r.val + 1) c, 0] := by
  revert c; decide +kernel
theorem off6_eq (c : Dev nD) : ∀ r : Fin 7, k0_off6 c (BitVec.ofNat 32 (1 + r.val)) = ![512 * copyBlk (2 * r.val + 2) c, 0] := by
  revert c; decide +kernel

theorem dev1_eq (c : Dev nD) : (⟨k0_dev1 c, k0_dev1_lt c⟩ : Dev nD) = nb true c := by
  refine Fin.ext ?_; revert c; decide +kernel
theorem dev2_eq (c : Dev nD) : (⟨k0_dev2 c, k0_dev2_lt c⟩ : Dev nD) = nb false c := by
  refine Fin.ext ?_; revert c; decide +kernel

end Cert.Gather
-- ==== Proof.Regions.lean ====
/-
# 01_k — the pieces of the two big buffers, and what they hold

The gathered array is cut by rows into thirty-two half blocks. This module names the set of elements of some half
blocks (`area`), the points-to of such a set in a device's gathering buffer (`gP`) and in its result (`oP`), the one
array that every device ends up holding (`gathered`), and shows that a transfer through a rectangle of either buffer
carries that array over, that a whole buffer is its pieces, and that a piece's share splits.
-/
module

public import proofs.«01_k».proof.Proof.Ring
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, and the ring's (duties named by a direction) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Sets of half blocks -/

/-- The elements of the half blocks numbered in `U`. -/
def area (U : Finset ℕ) : Finset S8192x512.Idx := Finset.univ.filter fun i => (i 0).val / 256 ∈ U

theorem mem_area {U : Finset ℕ} {i : S8192x512.Idx} : i ∈ area U ↔ (i 0).val / 256 ∈ U := by simp [area]

theorem area_disjoint {U V : Finset ℕ} (h : Disjoint U V) : Disjoint (area U) (area V) :=
  Finset.disjoint_left.mpr fun _ hi hj => Finset.disjoint_left.mp h (mem_area.mp hi) (mem_area.mp hj)

theorem area_union (U V : Finset ℕ) : area (U ∪ V) = area U ∪ area V := by
  ext i; simp [mem_area]

theorem row_lt (i : S8192x512.Idx) : (i 0).val / 256 < 32 := by
  have : (i 0).val < 8192 := (i 0).isLt
  omega

theorem area_half (u : ℕ) (inb) :
    (Rect.unit (s := S8192x512) ![256 * u, 0] S256x512.size inb).set = area {u} := by
  ext i
  rw [Rect.mem_set_unit, mem_area, Finset.mem_singleton]
  have h1 : (i 1).val < 512 := (i 1).isLt
  constructor
  · intro h
    have h0 := h 0
    simp [S256x512] at h0
    omega
  · intro h a
    fin_cases a
    · simp [S256x512]; omega
    · simp [S256x512]; omega

theorem area_block (b : ℕ) (inb) :
    (Rect.unit (s := S8192x512) ![512 * b, 0] S512x512.size inb).set = area {2 * b, 2 * b + 1} := by
  ext i
  rw [Rect.mem_set_unit, mem_area, Finset.mem_insert, Finset.mem_singleton]
  have h1 : (i 1).val < 512 := (i 1).isLt
  constructor
  · intro h
    have h0 := h 0
    simp [S512x512] at h0
    omega
  · intro h a
    fin_cases a
    · simp [S512x512]; omega
    · simp [S512x512]; omega

/-! ## The buffers and their pieces -/

abbrev xM : Memref sig .tc .vmem S512x512 .bf16 := Memref.whole cc0_stg0_0
abbrev gM : Memref sig .tc .vmem S8192x512 .bf16 := Memref.whole cc0_scratch0
abbrev oM : Memref sig .tc .hbm S8192x512 .bf16 := Memref.whole main_v1

/-- A whole gathered array. -/
abbrev Arr (F : FTy → Type) : Type := S8192x512.Idx → Elt F .bf16

/-- The half blocks `U` of device `c`'s gathering buffer, at share `q`, as `f` has them. -/
def gP (c : Dev nD) (U : Finset ℕ) (q : PosShare TreeShare) (f : Arr F) : sProp 𝕄 :=
  (gM : Memref sig .tc .vmem S8192x512 .bf16).view.loc (c : Thread nD τ) ↦[area U]{q} f

/-- The half blocks `U` of device `c`'s result. -/
def oP (c : Dev nD) (U : Finset ℕ) (q : PosShare TreeShare) (f : Arr F) : sProp 𝕄 :=
  (oM : Memref sig .tc .hbm S8192x512 .bf16).view.loc (c : Thread nD τ) ↦[area U]{q} f

instance gP_storable (c : Dev nD) (U q) (f : Arr F) : BI.Storable (upEmb : UEmb _ 𝕄) (gP c U q f) := by unfold gP; infer_instance
instance oP_storable (c : Dev nD) (U q) (f : Arr F) : BI.Storable (upEmb : UEmb _ 𝕄) (oP c U q f) := by unfold oP; infer_instance

theorem gP_congr (c : Dev nD) (U q) (f g : Arr F) (h : ∀ i ∈ area U, f i = g i) : gP c U q f = gP c U q g := pointsTo_congr h
theorem oP_congr (c : Dev nD) (U q) (f g : Arr F) (h : ∀ i ∈ area U, f i = g i) : oP c U q f = oP c U q g := pointsTo_congr h

theorem gP_union (c : Dev nD) (U V q) (f : Arr F) (h : Disjoint U V) : gP c (U ∪ V) q f = iprop(gP c U q f ∗ gP c V q f) := by
  unfold gP; rw [area_union]
  have h' := pointsTo_union (Val := Elt F) (Ix := Unit) (Name := ℕ) (U := UU) (Lvl := ℕ) (ℓ := (gM : Memref sig .tc .vmem S8192x512 .bf16).view.loc (c : Thread nD τ))
    (I := area U) (J := area V) (q := q) (f := f) (area_disjoint h)
  exact BI.equiv_iff.mp ⟨h'.1, h'.2⟩

theorem gP_share (c : Dev nD) (U q) (f : Arr F) : gP c U q f = iprop(gP c U q.left f ∗ gP c U q.right f) := by
  have h := pointsTo_share (Val := Elt F) (Ix := Unit) (Name := ℕ) (U := UU) (Lvl := ℕ) (ℓ := (gM : Memref sig .tc .vmem S8192x512 .bf16).view.loc (c : Thread nD τ))
    (I := area U) (f := f) (PosShare.mem_left_op_right q)
  exact BI.equiv_iff.mp ⟨h.1, h.2⟩

/-- A whole gathering buffer is its thirty-two half blocks. -/
theorem gP_pieces (c : Dev nD) (q) (f : Arr F) :
    (((c : Thread nD τ).loc cc0_scratch0) ↦{q} f : sProp 𝕄) = bigSep Finset.univ fun p : Piece => gP c {pieceHalf c p} q f := by
  unfold gP
  rw [← pointsTo_biUnion (ℓ := (gM : Memref sig .tc .vmem S8192x512 .bf16).view.loc (c : Thread nD τ)) (q := q) (f := f)
    Finset.univ (fun p : Piece => area {pieceHalf c p}) (fun p _ p' _ hne => area_disjoint (Finset.disjoint_singleton.mpr fun h => hne (pieceHalf_inj c h)))]
  refine congrArg (fun I => (((c : Thread nD τ).loc cc0_scratch0) ↦[I]{q} f : sProp 𝕄)) (Finset.eq_univ_of_forall fun i => ?_).symm
  obtain ⟨p, hp⟩ := pieceHalf_surj c ⟨_, row_lt i⟩
  exact Finset.mem_biUnion.mpr ⟨p, Finset.mem_univ _, mem_area.mpr (Finset.mem_singleton.mpr hp.symm)⟩

/-- A whole result is its seventeen copied parts. -/
theorem oP_copies (c : Dev nD) (q) (f : Arr F) :
    (((c : Thread nD τ).loc main_v1) ↦{q} f : sProp 𝕄) = bigSep Finset.univ fun i : Fin 17 => oP c (copyHalves i.val c) q f := by
  unfold oP
  rw [← pointsTo_biUnion (ℓ := (oM : Memref sig .tc .hbm S8192x512 .bf16).view.loc (c : Thread nD τ)) (q := q) (f := f)
    Finset.univ (fun i : Fin 17 => area (copyHalves i.val c)) (fun p _ p' _ hne => area_disjoint (copyHalves_disjoint c p p' hne))]
  refine congrArg (fun I => (((c : Thread nD τ).loc main_v1) ↦[I]{q} f : sProp 𝕄)) (Finset.eq_univ_of_forall fun i => ?_).symm
  obtain ⟨p, hp⟩ := copyHalves_cover c ⟨_, row_lt i⟩
  exact Finset.mem_biUnion.mpr ⟨p, Finset.mem_univ _, mem_area.mpr hp⟩

/-! ## What a transfer lands -/

/-- A transfer between the gathering buffers, the source holding `f`, lands `f`. -/
theorem land_g (r : Rect S8192x512) (h) (h') (fd f : Arr F) : ∀ i ∈ r.set,
    ((gM : Memref sig .tc .vmem S8192x512 .bf16).slice r h).view.write (Elt F) fd
      (((gM : Memref sig .tc .vmem S8192x512 .bf16).slice r h').view.read (Elt F) f) Finset.univ i = f i := by
  intro i hi
  rw [← Rect.map_emb_univ] at hi
  obtain ⟨x, -, rfl⟩ := Finset.mem_map.mp hi
  exact View.write_emb_of_mem (v := ((gM : Memref sig .tc .vmem S8192x512 .bf16).slice r h).view) _ _ (Finset.mem_univ x)

/-- A copy from the gathering buffer into the same rectangle of the result likewise. -/
theorem land_o (r : Rect S8192x512) (h) (h') (fd f : Arr F) : ∀ i ∈ r.set,
    ((oM : Memref sig .tc .hbm S8192x512 .bf16).slice r h).view.write (Elt F) fd
      (((gM : Memref sig .tc .vmem S8192x512 .bf16).slice r h').view.read (Elt F) f) Finset.univ i = f i := by
  intro i hi
  rw [← Rect.map_emb_univ] at hi
  obtain ⟨x, -, rfl⟩ := Finset.mem_map.mp hi
  exact View.write_emb_of_mem (v := ((oM : Memref sig .tc .hbm S8192x512 .bf16).slice r h).view) _ _ (Finset.mem_univ x)

/-! ## The contents -/

variable (m : (ℓ : Loc nD τ sig) → Buf (Elt F) ℓ)

/-- The device whose block holds an element, -/
def homeOf (i : S8192x512.Idx) : Dev nD := ⟨(i 0).val / 512, by
  have h : (i 0).val < 8192 := (i 0).isLt
  have : (i 0).val / 512 < 16 := by omega
  exact this⟩

/-- and the element's place in that block. -/
def placeOf (i : S8192x512.Idx) : S512x512.Idx
  | ⟨0, _⟩ => ⟨(i 0).val % 512, Nat.mod_lt _ (by decide)⟩
  | ⟨1, _⟩ => ⟨(i 1).val, (i 1).isLt⟩

/-- The array of every device's block, in the order of the devices: what every device ends up with. -/
def gathered : Arr F := fun i => m ((homeOf i : Thread nD τ).loc main_arg0) (placeOf i)

/-! ## Runs of numbers -/

theorem bigSep_fin_range (n : ℕ) (Φ : ℕ → sProp 𝕄) :
    bigSep (Finset.univ : Finset (Fin n)) (fun i => Φ i.val) = bigSep (Finset.range n) Φ := by
  rw [← Nat.Iio_eq_range, ← Fin.map_valEmbedding_univ, bigSep_map]; rfl

end Cert.Gather

end
-- ==== Proof.Protocol.lean ====
/-
# 01_k — the protocol: cells, duties, payloads, levels

Every semaphore is used once, so every cell has the one round 0.

* The barrier cell of device `c` waits for two units, one from each neighbour. The unit of the neighbour that direction
  `d` reaches is duty `d`; with it that neighbour hands over the fifteen half blocks of its own gathering buffer that
  `c` will send it in direction `d`.
* Transfer `n` of direction `d` (`n < 15`) leaves half block `half d n` of device `c` for device `nb d c`, which names it
  `n + 2`. Its send cell hands back the share of the half block that was lent to the transfer; its receive cell, on
  the neighbour, hands over the half block as the gathered array has it.
* Copy `i` (`i < 17`) fills its part of the result from the gathering buffer, and its cell hands over both.
* Four of the semaphores are never touched.

A device waits at its barrier owing all thirty arrivals, and for arrival `n` owing only later ones: the barrier has level
one, arrival `n` level `n + 2`, and everything else, which is waited for owing nothing, level zero.
-/
module

public import proofs.«01_k».proof.Proof.Regions

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

/-- The kernel's own semaphores by what they do: `inl (true, d, n)` receives and `inl (false, d, n)` sends transfer `n` of
    direction `d`; then the seventeen copies, and four spares. -/
abbrev Role : Type := (Bool × Bool × Fin 15) ⊕ (Fin 17 ⊕ Fin 4)

abbrev sendRole (d : Bool) (n : Fin 15) : Role := .inl (false, d, n)
abbrev recvRole (d : Bool) (n : Fin 15) : Role := .inl (true, d, n)
abbrev copyRole (i : Fin 17) : Role := .inr (.inl i)

/-- The four unused semaphores: the last of each of the four arrays of sixteen (the first ones, going backward). -/
def spareNo (k : Fin 4) : ℕ := ![16, 32, 47, 63] k

/-- The number of the semaphore of a transfer: of the send (`r = false`) or receive cell of transfer `n`. -/
def xferNo (r d : Bool) (n : ℕ) : ℕ :=
  (if d then 33 else 1) + (if r then 16 else 0) + (if d then 2 * (n / 2) + (1 - n % 2) else n)

/-- The number of the semaphore of copy `i`. -/
def copyNo (i : ℕ) : ℕ := if i < 15 then (if i % 2 = 1 then 65 + (i + 1) / 2 else if i = 0 then 65 else 72 + i / 2) else 65 + i

def dsem (j : ℕ) : DmaSem sig := ⟨j % 82, Nat.mod_lt _ (by decide)⟩

abbrev xferSem (r d : Bool) (n : ℕ) : DmaSem sig := dsem (xferNo r d n)
abbrev copySem (i : ℕ) : DmaSem sig := dsem (copyNo i)

/-- The barrier semaphore the runtime gives the kernel. -/
abbrev barS : Sem sig := (SemArray.scalar (sig.barrier 0 rfl) : Sems sig S_).sem

/-- The kernel's own semaphores, -/
def osem : Role → SemLoc sig
  | .inl (r, d, n) => .dma (xferSem r d n.val)
  | .inr (.inl i) => .dma (copySem i.val)
  | .inr (.inr k) => .dma (dsem (spareNo k))

/-- and with them the barrier semaphore. -/
def csem : Option Role → SemLoc sig
  | none => .reg barS
  | some k => osem k

theorem osem_inj : Function.Injective osem := by
  have h : ∀ k k' : Role, osem k = osem k' → k = k' := by decide +kernel
  exact fun k k' => h k k'

theorem osem_ne_bar (k : Role) : osem k ≠ .reg barS := by
  rcases k with ⟨r, d, n⟩ | i | j <;> exact fun h => by cases h

theorem csem_inj : Function.Injective csem := by
  rintro (_ | k) (_ | k') h
  · rfl
  · exact absurd h.symm (osem_ne_bar k')
  · exact absurd h (osem_ne_bar k)
  · exact congrArg some (osem_inj h)

/-- A staging semaphore is none of them. -/
theorem csem_ne_stage (k : Option Role) : csem k ≠ .dma (0 : DmaSem sig) := by
  revert k; decide +kernel

/-- The role of a semaphore, if it has one. -/
def roleOf : SemLoc sig → Option (Option Role) := Function.partialInv csem

theorem roleOf_csem (k : Option Role) : roleOf (csem k) = some k := Function.partialInv_left csem_inj k

theorem roleOf_none {s : SemLoc sig} (h : ∀ k, csem k ≠ s) : roleOf s = none :=
  dif_neg fun ⟨k, hk⟩ => h k hk

abbrev kcell (ck : Dev nD × Option Role) : GSem nD τ sig := ((ck.1 : Thread nD τ), csem ck.2)

theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_inj h2]

abbrev barCell (c : Dev nD) : GSem nD τ sig := ((c : Thread nD τ), .reg barS)
abbrev xferCell (r d : Bool) (n : ℕ) (c : Dev nD) : GSem nD τ sig := ((c : Thread nD τ), .dma (xferSem r d n))
abbrev copyCell (i : ℕ) (c : Dev nD) : GSem nD τ sig := ((c : Thread nD τ), .dma (copySem i))

/-! ## The amounts -/

/-- The credit of a half block, landing in a gathering buffer; -/
def NX : ℕ := (cc0_scratch0 : Ref sig .tc).dmaCredit S256x512 .bf16
/-- of a block and of a half block, landing in the result. -/
def NC (i : ℕ) : ℕ :=
  if i < 15 then (main_v1 : Ref sig .tc).dmaCredit S512x512 .bf16
  else (main_v1 : Ref sig .tc).dmaCredit S256x512 .bf16

theorem NX_pos : 0 < NX := sig.dmaCredit_pos _ _ _ _ _ (by decide)
theorem NC_pos (i : ℕ) : 0 < NC i := by
  unfold NC; split <;> exact sig.dmaCredit_pos _ _ _ _ _ (by decide)

/-! ## The schedule -/

/-- The share of half block `n` lent to its transfer. A half block that arrived keeps the right half for its copy; the
    device's own half blocks, sent both ways, lend a quarter each way. -/
def lent (d : Bool) (n : ℕ) : PosShare TreeShare :=
  if n < 2 then (if d then fullShare.left.right else fullShare.left.left) else fullShare.left

variable (m : (ℓ : Loc nD τ sig) → Buf (Elt F) ℓ)

/-- What direction `d`'s neighbour lends device `c` at the barrier. -/
def barPay (c : Dev nD) (d : Bool) : sProp 𝕄 :=
  bigSep (Finset.range 15) fun n => iprop(∃ f, gP (nb d c) {half d n c} fullShare f)
/-- What a completed send gives back, -/
def sendPay (c : Dev nD) (d : Bool) (n : ℕ) : sProp 𝕄 := gP c {half d n c} (lent d n) (gathered m)
/-- a completed arrival hands over, -/
def recvPay (c : Dev nD) (d : Bool) (n : ℕ) : sProp 𝕄 := gP c {half d (n + 2) c} fullShare (gathered m)
/-- and a completed copy hands over. -/
def copyPay (c : Dev nD) (i : ℕ) : sProp 𝕄 :=
  iprop(oP c (copyHalves i c) fullShare (gathered m) ∗ gP c (copyHalves i c) fullShare.right (gathered m))

def dutiesOf : Option Role → Finset Bool
  | none => Finset.univ
  | some (.inr (.inr _)) => ∅
  | some _ => {false}

def amountOf : Option Role → ℕ
  | none => 1
  | some (.inl _) => NX
  | some (.inr (.inl i)) => NC i.val
  | some (.inr (.inr _)) => 1

def payOf (c : Dev nD) : Option Role → Bool → sProp 𝕄
  | none, d => barPay c d
  | some (.inl (false, d, n)), _ => sendPay m c d n.val
  | some (.inl (true, d, n)), _ => recvPay m c d n.val
  | some (.inr (.inl i)), _ => copyPay m c i.val
  | some (.inr (.inr _)), _ => iprop(emp)

instance payOf_storable (c : Dev nD) (k : Option Role) (d : Bool) : BI.Storable (upEmb : UEmb _ 𝕄) (payOf m c k d) := by
  rcases k with _ | ⟨_ | _, d', n⟩ | i | j <;> unfold payOf
  · unfold barPay; infer_instance
  · unfold sendPay; infer_instance
  · unfold recvPay; infer_instance
  · unfold copyPay; infer_instance
  · infer_instance

theorem amountOf_pos (k : Option Role) : 0 < amountOf k := by
  rcases k with _ | _ | i | j
  exacts [Nat.one_pos, NX_pos, NC_pos _, Nat.one_pos]

/-- The schedule of every cell. -/
def Rd : Rounds.Schedule (GSem nD τ sig) Bool 𝕄 where
  duties g r := if r = 0 then (match roleOf g.2 with | some k => dutiesOf k | none => ∅) else ∅
  amount g _ _ := match roleOf g.2 with | some k => amountOf k | none => 1
  payload g _ d := match roleOf g.2 with | some k => payOf m g.1.1 k d | none => iprop(emp)
  amount_pos g _ _ _ := by
    show 0 < match roleOf g.2 with | some k => amountOf k | none => 1
    split
    · exact amountOf_pos _
    · exact Nat.one_pos

instance Rd_payload_storable (g : GSem nD τ sig) (r : ℕ) (d : Bool) : BI.Storable (upEmb : UEmb _ 𝕄) ((Rd m).payload g r d) := by
  show BI.Storable upEmb (match roleOf g.2 with | some k => payOf m g.1.1 k d | none => iprop(emp))
  split <;> infer_instance

theorem duties_at (c : Dev nD) (k : Option Role) : (Rd m).duties (kcell (c, k)) 0 = dutiesOf k := by
  dsimp only [Rd, kcell]; rw [if_pos rfl, roleOf_csem]
theorem duties_later (g : GSem nD τ sig) : ∀ r, 1 ≤ r → (Rd m).duties g r = ∅ :=
  fun r hr => by dsimp only [Rd]; rw [if_neg (by omega)]
theorem amount_at (c : Dev nD) (k : Option Role) (d : Bool) : (Rd m).amount (kcell (c, k)) 0 d = amountOf k := by
  dsimp only [Rd, kcell]; rw [roleOf_csem]
theorem payload_at (c : Dev nD) (k : Option Role) (d : Bool) : (Rd m).payload (kcell (c, k)) 0 d = payOf m c k d := by
  dsimp only [Rd, kcell]; rw [roleOf_csem]
theorem expect_at (c : Dev nD) (k : Option Role) : (Rd m).expect (kcell (c, k)) 0 = (dutiesOf k).card * amountOf k := by
  unfold Schedule.expect Schedule.amountOf
  rw [duties_at, Finset.sum_congr rfl fun d _ => amount_at m c k d, Finset.sum_const, smul_eq_mul]
/-- The rest of a round of which nothing is taken: everything its duties hand over. -/
theorem rest_at (c : Dev nD) (k : Option Role) :
    bigSep ((Rd m).duties (kcell (c, k)) 0 \ ∅) (fun d => (Rd m).payload (kcell (c, k)) 0 d) = bigSep (dutiesOf k) (payOf m c k) := by
  rw [Finset.sdiff_empty, duties_at]; exact bigSep_congr fun d _ => payload_at m c k d
/-- A spare cell has no duty at all. -/
theorem duties_spare (c : Dev nD) (j : Fin 4) : ∀ r, 0 ≤ r → (Rd m).duties (kcell (c, some (.inr (.inr j)))) r = ∅ := by
  intro r _
  rcases Nat.eq_zero_or_pos r with rfl | hr
  · exact duties_at m c _
  · exact duties_later m _ r hr

/-! ## What a device owes, and the levels -/

/-- The arrivals that device `c` still owes in direction `d` when transfers below `s` are under way. -/
def OD (d : Bool) (c : Dev nD) (s : ℕ) : CellTallies nD τ sig Unit :=
  ∑ n ∈ Finset.Ico s 15, tallyAt (xferCell true d n (nb d c)) () NX

/-- What device `c` owes from the barrier on, -/
def OX (c : Dev nD) (s s' : ℕ) : CellTallies nD τ sig Unit := OD false c s + OD true c s'

/-- and at launch, the unit for the previous device being paid first. -/
def O₀ (c : Dev nD) : CellTallies nD τ sig Unit :=
  (OX c 0 0 + tallyAt (barCell (nb false c)) () 1) + tallyAt (barCell (nb true c)) () 1

theorem OD_peel (d : Bool) (c : Dev nD) {s : ℕ} (h : s < 15) :
    OD d c s = OD d c (s + 1) + tallyAt (xferCell true d s (nb d c)) () NX := by
  unfold OD
  rw [show Finset.Ico s 15 = insert s (Finset.Ico (s + 1) 15) by ext x; simp only [Finset.mem_Ico, Finset.mem_insert]; omega,
    Finset.sum_insert (by simp), add_comm]

theorem OD_done (d : Bool) (c : Dev nD) : OD d c 15 = 0 := by unfold OD; simp

def L (g : GSem nD τ sig) : Finset Unit := if g.1.2 = .tc then {()} else ∅

def levelOf : Option Role → ℕ
  | none => 1
  | some (.inl (true, _, n)) => n.val + 2
  | some _ => 0

def lv (g : GSem nD τ sig) (_ : Unit) : ℕ := match roleOf g.2 with | some k => levelOf k | none => 0

theorem L_of_ne (g : GSem nD τ sig) (h : g.1.2 ≠ .tc) : L g = ∅ := if_neg h
theorem L_tc (c : Dev nD) (sm : SemLoc sig) : L ((c : Thread nD τ), sm) = {()} := if_pos rfl

theorem lv_at (c : Dev nD) (k : Option Role) (u : Unit) : lv (kcell (c, k)) u = levelOf k := by
  dsimp only [lv, kcell]; rw [roleOf_csem]
theorem lv_stage (c : Dev nD) (u : Unit) : lv ((c : Thread nD τ), .dma (0 : DmaSem sig)) u = 0 := by
  dsimp only [lv]; rw [roleOf_none csem_ne_stage]

theorem OD_pos {d : Bool} {c : Dev nD} {s : ℕ} {g : GSem nD τ sig} {u : Unit} (h : 0 < OD d c s g u) :
    ∃ n : Fin 15, s ≤ n.val ∧ g = kcell (nb d c, some (recvRole d n)) := by
  unfold OD at h
  rw [Finset.sum_apply, Finsupp.finsetSum_apply] at h
  obtain ⟨n, hn, hp⟩ := Finset.exists_ne_zero_of_sum_ne_zero h.ne'
  rw [tallyAt_apply] at hp
  have hn' := Finset.mem_Ico.mp hn
  refine ⟨⟨n, hn'.2⟩, hn'.1, ?_⟩
  by_contra hne
  exact hp (if_neg fun h' => hne h'.1)

theorem OX_pos {c : Dev nD} {s s' : ℕ} {g : GSem nD τ sig} {u : Unit} (h : 0 < OX c s s' g u) :
    ∃ (d : Bool) (n : Fin 15), (s ≤ n.val ∨ s' ≤ n.val) ∧ g = kcell (nb d c, some (recvRole d n)) := by
  unfold OX at h
  rw [Pi.add_apply, Finsupp.add_apply] at h
  rcases Nat.eq_zero_or_pos (OD false c s g u) with h0 | h0
  · rw [h0, Nat.zero_add] at h
    obtain ⟨n, hn, hg⟩ := OD_pos h
    exact ⟨true, n, .inr hn, hg⟩
  · obtain ⟨n, hn, hg⟩ := OD_pos h0
    exact ⟨false, n, .inl hn, hg⟩

theorem O₀_pos {c : Dev nD} {g : GSem nD τ sig} {u : Unit} (h : 0 < O₀ c g u) :
    (∃ (d : Bool) (n : Fin 15), g = kcell (nb d c, some (recvRole d n))) ∨ ∃ d : Bool, g = kcell (nb d c, none) := by
  have hsum : O₀ c g u = OX c 0 0 g u + tallyAt (barCell (nb false c)) () 1 g u + tallyAt (barCell (nb true c)) () 1 g u := rfl
  rw [hsum] at h
  have hbar : ∀ d : Bool, 0 < tallyAt (nD := nD) (τ := τ) (sig := sig) (barCell (nb d c)) () 1 g u → g = kcell (nb d c, none) := fun d hd => by
    rw [tallyAt_apply] at hd
    by_contra hn
    exact absurd hd (by rw [if_neg fun h' => hn h'.1]; exact Nat.lt_irrefl 0)
  rcases Nat.eq_zero_or_pos (OX c 0 0 g u) with h0 | h0
  · rcases Nat.eq_zero_or_pos (tallyAt (barCell (nb false c)) () 1 g u) with h1 | h1
    · rw [h0, h1, Nat.zero_add] at h
      exact .inr ⟨true, hbar true h⟩
    · exact .inr ⟨false, hbar false h1⟩
  · obtain ⟨d, n, -, hg⟩ := OX_pos h0
    exact .inl ⟨d, n, hg⟩

/-- A cell may be waited for while every arrival owed is of a higher level. -/
theorem mayWait_of_level (c : Dev nD) (k : Option Role) (s s' : ℕ) (hs : levelOf k < s + 2) (hs' : levelOf k < s' + 2) :
    (levAts L lv : sProp 𝕄) ⊢ MayWait (c : Thread nD τ) (csem k) () (OX c s s') :=
  MayOwe.of_cut (L := L) (lev := lv) (levelOf k)
    (fun p hp => by rw [Finset.mem_singleton.mp hp, L_tc]; exact Finset.mem_singleton_self _)
    (fun g u hg => by obtain ⟨d, n, -, rfl⟩ := OX_pos hg; rw [L_tc]; exact Finset.mem_singleton_self _)
    (fun p hp => by rw [Finset.mem_singleton.mp hp]; exact (lv_at c k ()).le)
    (fun g u hg => by
      obtain ⟨d, n, hn, rfl⟩ := OX_pos hg
      rw [lv_at]; show levelOf k < n.val + 2
      omega)

/-- The staging semaphore may be waited for at launch and at the end. -/
theorem mayWait_stage (c : Dev nD) (O : CellTallies nD τ sig Unit) (hO : O = O₀ c ∨ O = 0) :
    (levAts L lv : sProp 𝕄) ⊢ MayWait (c : Thread nD τ) (.dma (0 : DmaSem sig)) () O := by
  rcases hO with rfl | rfl
  · refine MayOwe.of_cut (L := L) (lev := lv) 0
      (fun p hp => by rw [Finset.mem_singleton.mp hp, L_tc]; exact Finset.mem_singleton_self _)
      (fun g u hg => by rcases O₀_pos hg with ⟨d, n, rfl⟩ | ⟨d, rfl⟩ <;> (rw [L_tc]; exact Finset.mem_singleton_self _))
      (fun p hp => by rw [Finset.mem_singleton.mp hp]; exact (lv_stage c ()).le)
      (fun g u hg => by
        rcases O₀_pos hg with ⟨d, n, rfl⟩ | ⟨d, rfl⟩
        · rw [lv_at]; exact Nat.succ_pos _
        · rw [lv_at]; exact Nat.one_pos)
  · rw [MayWait_zero]; iintro -; iempintro

end Cert.Gather

end
-- ==== Proof.Steps.lean ====
/-
# 01_k — one operation at a time

What a device holds while the kernel runs, indexed by how far each direction and the copies have come, and one rule for
each kind of operation: a send, the wait for an arrival, the wait for a send, a copy, the wait for a copy.
-/
module

public import proofs.«01_k».proof.Proof.Protocol
public import Idealize.SL.BI.BigOpNat

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What every device knows -/

instance : DecidableEq (Dev nD × Option Role) := instDecidableEqProd

/-- Every cell of every device has its invariant, and has reached its round 0. -/
def Rec (K : Dev nD × Option Role → ℕ) : sProp 𝕄 :=
  iprop((bigSep Finset.univ fun ck : Dev nD × Option Role => cellInv ER (Rd m) (K ck) (kcell ck))
    ∗ bigSep Finset.univ fun ck : Dev nD × Option Role => reached ER (kcell ck) 0)

instance Rec_persistent (K : Dev nD × Option Role → ℕ) : BI.Persistent (Rec m K) := by unfold Rec; infer_instance

theorem Rec_inv (K : Dev nD × Option Role → ℕ) (ck : Dev nD × Option Role) : Rec m K ⊢ cellInv ER (Rd m) (K ck) (kcell ck) := by
  unfold Rec
  have h : (bigSep Finset.univ fun ck : Dev nD × Option Role => cellInv ER (Rd m) (K ck) (kcell ck)) ⊢ cellInv ER (Rd m) (K ck) (kcell ck) :=
    bigSep_elim (Finset.mem_univ ck)
  iintro ⟨H, -⟩
  iapply h; iexact H

theorem Rec_reached (K : Dev nD × Option Role → ℕ) (ck : Dev nD × Option Role) : Rec m K ⊢ reached ER (kcell ck) 0 := by
  unfold Rec
  have h : (bigSep Finset.univ fun ck : Dev nD × Option Role => (reached ER (kcell ck) 0 : sProp 𝕄)) ⊢ reached ER (kcell ck) 0 :=
    bigSep_elim (Finset.mem_univ ck)
  iintro ⟨-, H⟩
  iapply h; iexact H

/-- A cell with a duty `d` has it in its round 0. -/
theorem mem_duties (c : Dev nD) (k : Option Role) (d : Bool) (h : d ∈ dutiesOf k) : d ∈ (Rd m).duties (kcell (c, k)) 0 := by
  rw [duties_at]; exact h

/-! ## What a device holds -/

/-- Transfers from `s` on, not yet sent: their two duties and the neighbour's half blocks they will fill. -/
def Unsent (c : Dev nD) (d : Bool) (s : ℕ) : sProp 𝕄 :=
  bigSep (Finset.Ico s 15) fun n => iprop(dutyTok ER (xferCell false d n c) 0 false ∗ dutyTok ER (xferCell true d n (nb d c)) 0 false
    ∗ ∃ f, gP (nb d c) {half d n c} fullShare f)
/-- Half blocks at hand and not yet sent on, at the share a transfer takes; -/
def Held (c : Dev nD) (d : Bool) (s r : ℕ) : sProp 𝕄 := bigSep (Finset.Ico s (r + 2)) fun n => sendPay m c d n
/-- at hand and not yet copied, at the share a copy takes. -/
def Kept (c : Dev nD) (d : Bool) (k r : ℕ) : sProp 𝕄 :=
  bigSep (Finset.Ico k (r + 2)) fun n => gP c {half d n c} fullShare.right (gathered m)
/-- Arrivals from `r` on, not yet waited for; the cells of those waited for, closed. -/
def Due (c : Dev nD) (d : Bool) (r : ℕ) : sProp 𝕄 :=
  bigSep (Finset.Ico r 15) fun n => iprop(cred (tallyAt (xferCell true d n c) () NX) ∗ atPos ER (xferCell true d n c) 0 ∅ 0)
def Came (c : Dev nD) (d : Bool) (r : ℕ) : sProp 𝕄 := bigSep (Finset.range r) fun n => semVal (xferCell true d n c) 0
/-- Send cells from `w` on, not yet waited for; the credit of those under way; those waited for, closed, with the share back. -/
def Out (c : Dev nD) (d : Bool) (w : ℕ) : sProp 𝕄 := bigSep (Finset.Ico w 15) fun n => atPos ER (xferCell false d n c) 0 ∅ 0
def Under (c : Dev nD) (d : Bool) (w s : ℕ) : sProp 𝕄 := bigSep (Finset.Ico w s) fun n => cred (tallyAt (xferCell false d n c) () NX)
def Back (c : Dev nD) (d : Bool) (w : ℕ) : sProp 𝕄 :=
  bigSep (Finset.range w) fun n => iprop(semVal (xferCell false d n c) 0 ∗ sendPay m c d n)

/-- Direction `d` on device `c`: `s` transfers sent, `r` arrived, `w` sends completed, the half blocks below `k` copied. -/
def Dir (c : Dev nD) (d : Bool) (s r w k : ℕ) : sProp 𝕄 :=
  iprop(Unsent c d s ∗ Held m c d s r ∗ Kept m c d k r ∗ Due c d r ∗ Came c d r ∗ Out c d w ∗ Under c d w s ∗ Back m c d w)

/-- The copies on device `c`: `k` started, `x` completed. -/
def Cps (c : Dev nD) (k x : ℕ) : sProp 𝕄 :=
  iprop((bigSep (Finset.Ico k 17) fun i => iprop(dutyTok ER (copyCell i c) 0 false ∗ ∃ f, oP c (copyHalves i c) fullShare f))
    ∗ (bigSep (Finset.Ico x 17) fun i => atPos ER (copyCell i c) 0 ∅ 0)
    ∗ (bigSep (Finset.Ico x k) fun i => cred (tallyAt (copyCell i c) () (NC i)))
    ∗ bigSep (Finset.range x) fun i => iprop(semVal (copyCell i c) 0 ∗ copyPay m c i))

section Rules

variable (K : Dev nD × Option Role → ℕ) (c : Dev nD)

theorem set_half {off : Fin 2 → ℕ} {u : ℕ} (h : off = ![256 * u, 0]) (inb) :
    (Rect.unit (s := S8192x512) off S256x512.size inb).set = area {u} := by
  subst h; exact area_half u inb

/-- A SEND: transfer `s` of direction `d` starts. It takes the lent share of its half block, fills the neighbour's, and
    pays the arrival that was owed. -/
theorem wp_send {α : Type} {Q : α → sProp 𝕄} {k' : PUnit → Prog (TpuEff nD τ sig (Elt F) Λ₀ .tc) α}
    (d : Bool) {s r w k : ℕ} (hs : s < 15) (hsr : s < r + 2) (hws : w ≤ s) {p : Dev nD} (hp : p = nb d c)
    {off : Fin 2 → ℕ} (hoff : off = ![256 * half d s c, 0]) {inb inb'} {sS sR : DmaSem sig} (hS : sS = xferSem false d s) (hR : sR = xferSem true d s)
    {h1 h2 hsc hsrc hdst hsem} (O : CellTallies nD τ sig Unit) {W : Waits sig Unit} :
    iprop(Rec m K ∗ Dir m c d s r w k ∗ owes (c : Thread nD τ) (O + tallyAt (xferCell true d s (nb d c)) () NX) W)
      ⊢ iprop(((Dir m c d (s + 1) r w k ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma ((gM : Memref sig .tc .vmem S8192x512 .bf16).slice (Rect.unit (s := S8192x512) off S256x512.size inb) h1)
                (.remote (Dev.tc p : Thread nD τ) ((gM : Memref sig .tc .vmem S8192x512 .bf16).slice (Rect.unit (s := S8192x512) off S256x512.size inb') h2) (.dma sS) hsc)
                (.dma sR) hsrc hdst hsem) k') Q) := by
  subst hp hS hR
  have hset := set_half hoff inb
  have hset2 : ((gM : Memref sig .tc .vmem S8192x512 .bf16).slice (Rect.unit (s := S8192x512) off S256x512.size inb) h1).view.set = area {half d s c} :=
    (View.set_slice_whole _ _).trans hset
  unfold Dir Unsent Held Under
  rw [bigSep_Ico_succ_bot hs, bigSep_Ico_succ_bot hsr, bigSep_Ico_succ_top hws]
  iintro ⟨#HR, ⟨⟨⟨Ht1, Ht2, ⟨%fd, Hd⟩⟩, HU⟩, ⟨Hh, HH⟩, HK, HD, HC, HO, HF, HB⟩, Ho⟩ Hk
  iapply (Rounds.wp_send_pointsTo 𝒱₀ ER (Rd m) (c : Thread nD τ) none (κ₁ := K (c, some (sendRole d ⟨s, hs⟩)))
    (κ₂ := K (nb d c, some (recvRole d ⟨s, hs⟩))) (r₁ := 0) (r₂ := 0) (d₁ := false) (d₂ := false) (fs := gathered m) (fd := fd) (q := lent d s)
    (mem_duties m c (some (sendRole d ⟨s, hs⟩)) false (Finset.mem_singleton_self _))
    (mem_duties m (nb d c) (some (recvRole d ⟨s, hs⟩)) false (Finset.mem_singleton_self _))
    () () NX rfl (amount_at m c (some (sendRole d ⟨s, hs⟩)) false) (amount_at m (nb d c) (some (recvRole d ⟨s, hs⟩)) false) O rfl (W := W)
    (by
      refine BIBase.Entails.trans ?_ (Entails.of_eq (payload_at m c (some (sendRole d ⟨s, hs⟩)) false).symm)
      show _ ⊢ sendPay m c d s
      unfold sendPay gP; rw [hset2])
    (by
      refine BIBase.Entails.trans ?_ (Entails.of_eq (payload_at m (nb d c) (some (recvRole d ⟨s, hs⟩)) false).symm)
      show _ ⊢ recvPay m (nb d c) d s
      unfold recvPay
      rw [half_step, ← gP_congr (nb d c) {half d s c} fullShare _ (gathered m) (by rw [← hset]; exact land_g _ h2 h1 fd (gathered m))]
      unfold gP; rw [hset2])) $$ [Hh Hd Ht1 Ht2 Ho]
  · isplitr; · iapply (Rec_inv m K (c, some (sendRole d ⟨s, hs⟩))); iexact HR
    isplitr; · iapply (Rec_inv m K (nb d c, some (recvRole d ⟨s, hs⟩))); iexact HR
    isplitl [Hh]; · unfold sendPay gP; rw [hset2]; iexact Hh
    isplitl [Hd]; · unfold gP; rw [hset2]; iexact Hd
    isplitl [Ho]; · iexact Ho
    isplitl [Ht1]; · iexact Ht1
    isplitr; · iapply (Rec_reached m K (c, some (sendRole d ⟨s, hs⟩))); iexact HR
    isplitl [Ht2]; · iexact Ht2
    iapply (Rec_reached m K (nb d c, some (recvRole d ⟨s, hs⟩))); iexact HR
  iintro ⟨Hcr, Ho⟩
  iapply Hk
  isplitr [Ho]
  · isplitl [HU]; · iexact HU
    isplitl [HH]; · iexact HH
    isplitl [HK]; · iexact HK
    isplitl [HD]; · iexact HD
    isplitl [HC]; · iexact HC
    isplitl [HO]; · iexact HO
    isplitl [Hcr HF]
    · isplitl [Hcr]; · iexact Hcr
      iexact HF
    iexact HB
  iexact Ho

/-- A WAIT for all that a cell other than the barrier's expects: its duties are taken and the cell closes. -/
theorem wp_take {α : Type} {Q : α → sProp 𝕄} {k' : PUnit → Prog (TpuEff nD τ sig (Elt F) Λ₀ .tc) α}
    (k : Role) {w : TpuEff nD τ sig (Elt F) Λ₀ .tc PUnit} {n : ℕ}
    (hw : ∀ P : PUnit → sProp 𝕄, wpE (defs₀ (F := F)) 𝒱₀ (c : Thread nD τ) none Set.univ w P = waitSpec (c : Thread nD τ) Set.univ (osem k) n P)
    (hn : n = (dutiesOf (some k)).card * amountOf (some k)) (O : CellTallies nD τ sig Unit) {W : Waits sig Unit} :
    iprop(Rec m K ∗ cred (tallyAt (kcell (c, some k)) () n) ∗ owes (c : Thread nD τ) O W ∗ MayWait (c : Thread nD τ) (osem k) () O
        ∗ atPos ER (kcell (c, some k)) 0 ∅ 0)
      ⊢ iprop(((owes (c : Thread nD τ) O (insert (osem k, ()) W) ∗ semVal (kcell (c, some k)) 0 ∗ bigSep (dutiesOf (some k)) (payOf m c (some k)))
            -∗ wp frame (wpE (defs₀ (F := F)) 𝒱₀ (c : Thread nD τ) none) Set.univ (k' ⟨⟩) Q)
          -∗ wp frame (wpE (defs₀ (F := F)) 𝒱₀ (c : Thread nD τ) none) Set.univ (.op w k') Q) := by
  iintro ⟨#HR, Hcr, Ho, HM, Hat⟩ Hk
  iapply (Rounds.wp_wait_rest_token 𝒱₀ ER (Rd m) (c : Thread nD τ) none (κ := K (c, some k)) hw (Set.mem_univ _) () (O := O) (W := W) (R := 0) (m := 0)
    (T := ∅) (by rw [Nat.zero_add, hn]; exact (expect_at m c (some k)).symm)) $$ [Hcr Ho HM Hat]
  · isplitr; · iapply (Rec_inv m K (c, some k)); iexact HR
    isplitl [Hcr]; · iexact Hcr
    isplitl [Ho]; · iexact Ho
    isplitl [HM]; · iexact HM
    iexact Hat
  iintro ⟨Ho, Hat, -, Hp⟩
  ihave Hp := (Entails.of_eq (show bigSep ((Rd m).duties ((c : Thread nD τ), osem k) 0 \ ∅) (fun d => (Rd m).payload ((c : Thread nD τ), osem k) 0 d)
    = bigSep (dutiesOf (some k)) (payOf m c (some k)) from rest_at m c (some k))) $$ Hp
  imod (Rounds.cell_close ER (Rd m) (Set.mem_univ (K (c, some k))) (fun h => h) (R := 0 + 1) (duties_later m (kcell (c, some k)))) $$ [Hat] with Hz
  · isplitr; · iapply (Rec_inv m K (c, some k)); iexact HR
    iexact Hat
  iapply Hk
  isplitl [Ho]; · iexact Ho
  isplitl [Hz]; · iexact Hz
  iexact Hp

/-- The wait for ARRIVAL `r` of direction `d`: half block `r + 2` is at hand, one share to send on, one to copy from. -/
theorem wp_recv {α : Type} {Q : α → sProp 𝕄} {k' : PUnit → Prog (TpuEff nD τ sig (Elt F) Λ₀ .tc) α}
    (d : Bool) {s r w k : ℕ} (hr : r < 15) (hs : s ≤ r + 2) (hk : k ≤ r + 2)
    {sm : DmaSem sig} (hsm : sm = xferSem true d r) {sh sh' : Shape} {e e' : EltTy} {sp sp' : Space}
    {src : Memref sig .tc sp' sh' e'} {dst : Memref sig .tc sp sh e} {hsrc hdst} (hN : dst.view.dmaCredit = NX)
    (O : CellTallies nD τ sig Unit) (hO : (levAts L lv : sProp 𝕄) ⊢ MayWait (c : Thread nD τ) (csem (some (recvRole d ⟨r, hr⟩))) () O) {W : Waits sig Unit} :
    iprop(Rec m K ∗ levAts L lv ∗ Dir m c d s r w k ∗ owes (c : Thread nD τ) O W)
      ⊢ iprop(((Dir m c d s (r + 1) w k ∗ ∃ W', owes (c : Thread nD τ) O W')
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm src dst hsrc hdst) k') Q) := by
  subst hsm
  unfold Dir Held Kept Due Came
  rw [bigSep_Ico_succ_bot hr, bigSep_range_succ, show r + 1 + 2 = (r + 2) + 1 from rfl, bigSep_Ico_succ_top hs, bigSep_Ico_succ_top hk]
  iintro ⟨#HR, #Hlev, ⟨HU, HH, HK, ⟨⟨Hcr, Hat⟩, HD⟩, HC, HO, HF, HB⟩, Ho⟩ Hk
  iapply (wp_take m K c (recvRole d ⟨r, hr⟩) (wpE_waitDma2_eq 𝒱₀ (c : Thread nD τ) none Set.univ) (hN.trans (Nat.one_mul _).symm) O) $$ [Hcr Hat Ho]
  · isplitr; · iexact HR
    isplitl [Hcr]; · rw [hN]; iexact Hcr
    isplitl [Ho]; · iexact Ho
    isplitr; · iapply hO; iexact Hlev
    iexact Hat
  iintro ⟨Ho, Hz, Hp⟩
  ihave Hp := (Entails.of_eq (show bigSep (dutiesOf (some (recvRole d ⟨r, hr⟩))) (payOf m c (some (recvRole d ⟨r, hr⟩)))
    = iprop(sendPay m c d (r + 2) ∗ gP c {half d (r + 2) c} fullShare.right (gathered m)) from by
      rw [show dutiesOf (some (recvRole d ⟨r, hr⟩)) = {false} from rfl, bigSep_singleton]
      show recvPay m c d r = _
      unfold recvPay sendPay lent
      rw [if_neg (by omega), ← gP_share])) $$ Hp
  icases Hp with ⟨Hl, Hr⟩
  iapply Hk
  isplitr [Ho]
  · isplitl [HU]; · iexact HU
    isplitl [Hl HH]
    · isplitl [Hl]; · iexact Hl
      iexact HH
    isplitl [Hr HK]
    · isplitl [Hr]; · iexact Hr
      iexact HK
    isplitl [HD]; · iexact HD
    isplitl [Hz HC]
    · isplitl [Hz]; · iexact Hz
      iexact HC
    isplitl [HO]; · iexact HO
    isplitl [HF]; · iexact HF
    iexact HB
  iexists _; iexact Ho

/-- The wait for the completion of SEND `w` of direction `d`: the lent share of its half block is back. -/
theorem wp_sent {α : Type} {Q : α → sProp 𝕄} {k' : PUnit → Prog (TpuEff nD τ sig (Elt F) Λ₀ .tc) α}
    (d : Bool) {s r w k : ℕ} (hw : w < 15) (hws : w < s)
    {sm : DmaSem sig} (hsm : sm = xferSem false d w) {sh sh' : Shape} {e e' : EltTy} {sp sp' : Space}
    {src : Memref sig .tc sp' sh' e'} {dst : Memref sig .tc sp sh e} {hsrc hdst} (hN : dst.view.dmaCredit = NX) {W : Waits sig Unit} :
    iprop(Rec m K ∗ Dir m c d s r w k ∗ owes (c : Thread nD τ) 0 W)
      ⊢ iprop(((Dir m c d s r (w + 1) k ∗ ∃ W', owes (c : Thread nD τ) 0 W')
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm src dst hsrc hdst) k') Q) := by
  subst hsm
  unfold Dir Out Under Back
  rw [bigSep_Ico_succ_bot hw, bigSep_Ico_succ_bot hws, bigSep_range_succ]
  iintro ⟨#HR, ⟨HU, HH, HK, HD, HC, ⟨Hat, HO⟩, ⟨Hcr, HF⟩, HB⟩, Ho⟩ Hk
  iapply (wp_take m K c (sendRole d ⟨w, hw⟩) (wpE_waitDma2_eq 𝒱₀ (c : Thread nD τ) none Set.univ) (hN.trans (Nat.one_mul _).symm) 0) $$ [Hcr Hat Ho]
  · isplitr; · iexact HR
    isplitl [Hcr]; · rw [hN]; iexact Hcr
    isplitl [Ho]; · iexact Ho
    isplitr; · rw [MayWait_zero]; iempintro
    iexact Hat
  iintro ⟨Ho, Hz, Hp⟩
  ihave Hp := (Entails.of_eq (show bigSep (dutiesOf (some (sendRole d ⟨w, hw⟩))) (payOf m c (some (sendRole d ⟨w, hw⟩))) = sendPay m c d w from by
      rw [show dutiesOf (some (sendRole d ⟨w, hw⟩)) = {false} from rfl, bigSep_singleton]; rfl)) $$ Hp
  iapply Hk
  isplitr [Ho]
  · isplitl [HU]; · iexact HU
    isplitl [HH]; · iexact HH
    isplitl [HK]; · iexact HK
    isplitl [HD]; · iexact HD
    isplitl [HC]; · iexact HC
    isplitl [HO]; · iexact HO
    isplitl [HF]; · iexact HF
    isplitl [Hz Hp]
    · isplitl [Hz]; · iexact Hz
      iexact Hp
    iexact HB
  iexists _; iexact Ho

/-- A COPY: number `i` starts, from the half blocks it covers to the same rows of the result. -/
theorem wp_copy {α : Type} {Q : α → sProp 𝕄} {k' : PUnit → Prog (TpuEff nD τ sig (Elt F) Λ₀ .tc) α}
    {i x : ℕ} (hi : i < 17) (hx : x ≤ i) {r : Rect S8192x512} (hset : r.set = area (copyHalves i c))
    {sm : DmaSem sig} (hsm : sm = copySem i) {h1 : ∀ a, r.stride a = 1} {h2 : ∀ a, r.stride a = 1} {hsrc hdst hsem}
    (hN : ((oM : Memref sig .tc .hbm S8192x512 .bf16).slice r h2).view.amount (.dma sm) = NC i) :
    iprop(Rec m K ∗ Cps m c i x ∗ gP c (copyHalves i c) fullShare.right (gathered m))
      ⊢ iprop((Cps m c (i + 1) x -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma ((gM : Memref sig .tc .vmem S8192x512 .bf16).slice r h1)
                (.here ((oM : Memref sig .tc .hbm S8192x512 .bf16).slice r h2)) (.dma sm) hsrc hdst hsem) k') Q) := by
  subst hsm
  have hs1 : ((gM : Memref sig .tc .vmem S8192x512 .bf16).slice r h1).view.set = area (copyHalves i c) := (View.set_slice_whole _ _).trans hset
  have hs2 : ((oM : Memref sig .tc .hbm S8192x512 .bf16).slice r h2).view.set = area (copyHalves i c) := (View.set_slice_whole _ _).trans hset
  unfold Cps
  rw [bigSep_Ico_succ_bot hi, bigSep_Ico_succ_top hx]
  iintro ⟨#HR, ⟨⟨⟨Ht, ⟨%fd, Hd⟩⟩, HU⟩, HA, HF, HB⟩, Hs⟩ Hk
  iapply (Rounds.wp_copy_pointsTo 𝒱₀ ER (Rd m) (c : Thread nD τ) none (κ := K (c, some (copyRole ⟨i, hi⟩))) (r := 0) (d := false)
    (fs := gathered m) (fd := fd) (q := fullShare.right)
    (mem_duties m c (some (copyRole ⟨i, hi⟩)) false (Finset.mem_singleton_self _)) () (NC i) hN (amount_at m c (some (copyRole ⟨i, hi⟩)) false)
    (by
      refine BIBase.Entails.trans ?_ (Entails.of_eq (payload_at m c (some (copyRole ⟨i, hi⟩)) false).symm)
      show _ ⊢ copyPay m c i
      unfold copyPay
      rw [← oP_congr c (copyHalves i c) fullShare _ (gathered m) (by rw [← hset]; exact land_o _ h2 h1 fd (gathered m))]
      unfold gP oP; rw [hs1, hs2])) $$ [Ht Hd Hs]
  · isplitr; · iapply (Rec_inv m K (c, some (copyRole ⟨i, hi⟩))); iexact HR
    isplitl [Hs]; · unfold gP; rw [hs1]; iexact Hs
    isplitl [Hd]; · unfold oP; rw [hs2]; iexact Hd
    isplitl [Ht]; · iexact Ht
    iapply (Rec_reached m K (c, some (copyRole ⟨i, hi⟩))); iexact HR
  iintro Hcr
  iapply Hk
  isplitl [HU]; · iexact HU
  isplitl [HA]; · iexact HA
  isplitl [Hcr HF]
  · isplitl [Hcr]; · iexact Hcr
    iexact HF
  iexact HB

/-- The wait for the completion of COPY `x`: its rows of the result are written. -/
theorem wp_copied {α : Type} {Q : α → sProp 𝕄} {k' : PUnit → Prog (TpuEff nD τ sig (Elt F) Λ₀ .tc) α}
    {k x : ℕ} (hx : x < 17) (hxk : x < k)
    {sm : DmaSem sig} (hsm : sm = copySem x) {sh sh' : Shape} {e e' : EltTy} {sp sp' : Space}
    {src : Memref sig .tc sp' sh' e'} {dst : Memref sig .tc sp sh e} {hsrc hdst} (hN : dst.view.dmaCredit = NC x) {W : Waits sig Unit} :
    iprop(Rec m K ∗ Cps m c k x ∗ owes (c : Thread nD τ) 0 W)
      ⊢ iprop(((Cps m c k (x + 1) ∗ ∃ W', owes (c : Thread nD τ) 0 W')
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sm src dst hsrc hdst) k') Q) := by
  subst hsm
  unfold Cps
  rw [bigSep_Ico_succ_bot hx, bigSep_Ico_succ_bot hxk, bigSep_range_succ]
  iintro ⟨#HR, ⟨HU, ⟨Hat, HA⟩, ⟨Hcr, HF⟩, HB⟩, Ho⟩ Hk
  iapply (wp_take m K c (copyRole ⟨x, hx⟩) (wpE_waitDma2_eq 𝒱₀ (c : Thread nD τ) none Set.univ) (hN.trans (Nat.one_mul _).symm) 0) $$ [Hcr Hat Ho]
  · isplitr; · iexact HR
    isplitl [Hcr]; · rw [hN]; iexact Hcr
    isplitl [Ho]; · iexact Ho
    isplitr; · rw [MayWait_zero]; iempintro
    iexact Hat
  iintro ⟨Ho, Hz, Hp⟩
  ihave Hp := (Entails.of_eq (show bigSep (dutiesOf (some (copyRole ⟨x, hx⟩))) (payOf m c (some (copyRole ⟨x, hx⟩))) = copyPay m c x from by
      rw [show dutiesOf (some (copyRole ⟨x, hx⟩)) = {false} from rfl, bigSep_singleton]; rfl)) $$ Hp
  iapply Hk
  isplitr [Ho]
  · isplitl [HU]; · iexact HU
    isplitl [HA]; · iexact HA
    isplitl [HF]; · iexact HF
    isplitl [Hz Hp]
    · isplitl [Hz]; · iexact Hz
      iexact Hp
    iexact HB
  iexists _; iexact Ho

end Rules

end Cert.Gather

end
-- ==== Proof.Moves.lean ====
/-
# 01_k — one operation at a time, on everything a device holds

The rules of the previous module, stated for the whole of what device `c` holds in the middle of the kernel, with anything
else it holds set aside.
-/
module

public import proofs.«01_k».proof.Proof.Steps

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem sepA (A B C : sProp 𝕄) : iprop((A ∗ B) ∗ C) = iprop(A ∗ B ∗ C) :=
  BI.equiv_iff.mp ⟨(Laws.sep_assoc (P := A) (Q := B) (R := C)).1, (Laws.sep_assoc (P := A) (Q := B) (R := C)).2⟩
theorem sepC (A B : sProp 𝕄) : iprop(A ∗ B) = iprop(B ∗ A) :=
  BI.equiv_iff.mp ⟨(Laws.sep_comm (P := A) (Q := B)).1, (Laws.sep_comm (P := A) (Q := B)).2⟩
theorem sepL (A B C : sProp 𝕄) : iprop(A ∗ B ∗ C) = iprop(B ∗ A ∗ C) := by rw [← sepA, sepC A B, sepA]

/-- Device `c` in the middle of the kernel: how far direction `d`, the other direction and the copies have come. -/
def St (K : Dev nD × Option Role → ℕ) (c : Dev nD) (d : Bool) (s r w k s' r' w' k' t x : ℕ) : sProp 𝕄 :=
  iprop(Rec m K ∗ levAts L lv ∗ Dir m c d s r w k ∗ Dir m c (!d) s' r' w' k' ∗ Cps m c t x ∗ ∃ W, owes (c : Thread nD τ) (OD d c s + OD (!d) c s') W)

/-- The directions may be named in either order. -/
theorem St_swap (K : Dev nD × Option Role → ℕ) (c : Dev nD) (d : Bool) (s r w k s' r' w' k' t x : ℕ) :
    St m K c d s r w k s' r' w' k' t x = St m K c (!d) s' r' w' k' s r w k t x := by
  unfold St
  rw [Bool.not_not, sepL (Dir m c d s r w k), add_comm (OD d c s)]

theorem OX_eq (c : Dev nD) (d : Bool) (s s' : ℕ) : OD d c s + OD (!d) c s' = if d then OX c s' s else OX c s s' := by
  cases d
  · rfl
  · exact add_comm _ _

section Rules

variable (K : Dev nD × Option Role → ℕ) (c : Dev nD)

theorem set_copy_block (k : ℕ) (hk : k < 15) {off : Fin 2 → ℕ} (hoff : off = ![512 * copyBlk k c, 0]) (inb) :
    (Rect.unit (s := S8192x512) off S512x512.size inb).set = area (copyHalves k c) := by
  subst hoff; unfold copyHalves; rw [if_pos hk]; exact area_block _ inb

theorem set_copy_half (k : ℕ) (hk : 15 ≤ k) {d : Bool} (hd : copyDir k = d) {off : Fin 2 → ℕ} (hoff : off = ![256 * half d 16 c, 0]) (inb) :
    (Rect.unit (s := S8192x512) off S256x512.size inb).set = area (copyHalves k c) := by
  subst hoff; unfold copyHalves; rw [if_neg (by omega), hd]; exact area_half _ inb

/-- The two halves of a block, as its copy takes them. -/
theorem halves_block (d : Bool) (h : ℕ) (q : PosShare TreeShare) (f : Arr F) :
    (gP c {2 * blk d h c, 2 * blk d h c + 1} q f : sProp 𝕄) = iprop(gP c {half d (2 * h) c} q f ∗ gP c {half d (2 * h + 1) c} q f) := by
  have h1 : (2 * h) / 2 = h := by omega
  have h2 : (2 * h + 1) / 2 = h := by omega
  have h3 : (2 * h) % 2 = 0 := by omega
  have h4 : (2 * h + 1) % 2 = 1 := by omega
  have hd : Disjoint ({half d (2 * h) c} : Finset ℕ) {half d (2 * h + 1) c} := by
    rw [Finset.disjoint_singleton]; unfold half seg; rw [h1, h2, h3, h4]; cases d <;> simp <;> omega
  rw [← gP_union c _ _ _ _ hd]
  congr 1
  unfold half seg; rw [h1, h2, h3, h4]
  cases d
  · rfl
  · exact Finset.pair_comm _ _

/-- What a block's copy takes out of what is kept for copying; -/
theorem kept_block (d : Bool) {k n r : ℕ} (hk : k < 15) (hd : copyDir k = d) (hn : 2 * ((k + 1) / 2) = n) (hr : n + 2 ≤ r + 2) :
    Kept m c d n r = iprop(gP c (copyHalves k c) fullShare.right (gathered m) ∗ Kept m c d (n + 2) r) := by
  unfold Kept copyHalves copyBlk
  rw [if_pos hk, hd, halves_block, hn, bigSep_Ico_succ_bot (by omega : n < r + 2), bigSep_Ico_succ_bot (by omega : n + 1 < r + 2)]
  exact (sepA _ _ _).symm

/-- and the last half block's. -/
theorem kept_half (d : Bool) {k n r : ℕ} (hk : 15 ≤ k) (hd : copyDir k = d) (hn : n = 16) (hr : n + 1 ≤ r + 2) :
    Kept m c d n r = iprop(gP c (copyHalves k c) fullShare.right (gathered m) ∗ Kept m c d (n + 1) r) := by
  subst hn
  unfold Kept copyHalves
  rw [if_neg (by omega), hd, bigSep_Ico_succ_bot (by omega : 16 < r + 2)]

/-- A send of direction `d`. -/
theorem st_send {α : Type} {Q : α → sProp 𝕄} {κ : PUnit → Prog (TpuEff nD τ sig (Elt F) Λ₀ .tc) α} {R : sProp 𝕄}
    {d : Bool} {s r w k s' r' w' k' t x : ℕ} (hs : s < 15) (hsr : s < r + 2) (hws : w ≤ s) {p : Dev nD} (hp : p = nb d c)
    {off : Fin 2 → ℕ} (hoff : off = ![256 * half d s c, 0]) {inb inb'} {sS sR : DmaSem sig} (hS : sS = xferSem false d s) (hR : sR = xferSem true d s)
    {h1 h2 hsc hsrc hdst hsem}
    (h : iprop(R ∗ St m K c d (s + 1) r w k s' r' w' k' t x) ⊢ wp frame (wpE (defs₀ (F := F)) 𝒱₀ (c : Thread nD τ) none) Set.univ (κ ⟨⟩) Q) :
    iprop(R ∗ St m K c d s r w k s' r' w' k' t x) ⊢ wp frame (wpE (defs₀ (F := F)) 𝒱₀ (c : Thread nD τ) none) Set.univ
      (.op (.enqueueDma ((gM : Memref sig .tc .vmem S8192x512 .bf16).slice (Rect.unit (s := S8192x512) off S256x512.size inb) h1)
        (.remote (Dev.tc p : Thread nD τ) ((gM : Memref sig .tc .vmem S8192x512 .bf16).slice (Rect.unit (s := S8192x512) off S256x512.size inb') h2) (.dma sS) hsc)
        (.dma sR) hsrc hdst hsem) κ) Q := by
  unfold St at h ⊢
  rw [OD_peel d c hs, add_right_comm]
  iintro ⟨HX, #HR, #HL, Hd, Hb, Hc, ⟨%W, Ho⟩⟩
  iapply (wp_send m K c d hs hsr hws hp hoff hS hR _) $$ [Hd Ho]
  · isplitr; · iexact HR
    isplitl [Hd]; · iexact Hd
    iexact Ho
  iintro ⟨Hd, Ho⟩
  iapply h
  isplitl [HX]; · iexact HX
  isplitr; · iexact HR
  isplitr; · iexact HL
  isplitl [Hd]; · iexact Hd
  isplitl [Hb]; · iexact Hb
  isplitl [Hc]; · iexact Hc
  iexists W; iexact Ho

/-- The wait for an arrival of direction `d`, only later arrivals being owed. -/
theorem st_recv {α : Type} {Q : α → sProp 𝕄} {κ : PUnit → Prog (TpuEff nD τ sig (Elt F) Λ₀ .tc) α} {R : sProp 𝕄}
    {d : Bool} {s r w k s' r' w' k' t x : ℕ} (hr : r < 15) (hs : s ≤ r + 2) (hk : k ≤ r + 2) (hl : r < s) (hl' : r < s')
    {sm : DmaSem sig} (hsm : sm = xferSem true d r) {sh sh' : Shape} {e e' : EltTy} {sp sp' : Space}
    {src : Memref sig .tc sp' sh' e'} {dst : Memref sig .tc sp sh e} {hsrc hdst} (hN : dst.view.dmaCredit = NX)
    (h : iprop(R ∗ St m K c d s (r + 1) w k s' r' w' k' t x) ⊢ wp frame (wpE (defs₀ (F := F)) 𝒱₀ (c : Thread nD τ) none) Set.univ (κ ⟨⟩) Q) :
    iprop(R ∗ St m K c d s r w k s' r' w' k' t x) ⊢ wp frame (wpE (defs₀ (F := F)) 𝒱₀ (c : Thread nD τ) none) Set.univ
      (.op (.waitDma2 sm src dst hsrc hdst) κ) Q := by
  unfold St at h ⊢
  have hM : (levAts L lv : sProp 𝕄) ⊢ MayWait (c : Thread nD τ) (csem (some (recvRole d ⟨r, hr⟩))) () (OD d c s + OD (!d) c s') := by
    have h1 : levelOf (some (recvRole d ⟨r, hr⟩)) < s + 2 := Nat.add_lt_add_right hl 2
    have h2 : levelOf (some (recvRole d ⟨r, hr⟩)) < s' + 2 := Nat.add_lt_add_right hl' 2
    rw [OX_eq]; split
    · exact mayWait_of_level c _ s' s h2 h1
    · exact mayWait_of_level c _ s s' h1 h2
  iintro ⟨HX, #HR, #HL, Hd, Hb, Hc, ⟨%W, Ho⟩⟩
  iapply (wp_recv m K c d hr hs hk hsm hN _ hM) $$ [Hd Ho]
  · isplitr; · iexact HR
    isplitr; · iexact HL
    isplitl [Hd]; · iexact Hd
    iexact Ho
  iintro ⟨Hd, ⟨%W, Ho⟩⟩
  iapply h
  isplitl [HX]; · iexact HX
  isplitr; · iexact HR
  isplitr; · iexact HL
  isplitl [Hd]; · iexact Hd
  isplitl [Hb]; · iexact Hb
  isplitl [Hc]; · iexact Hc
  iexists W; iexact Ho

/-- The wait for a send of direction `d`, nothing being owed any more. -/
theorem st_sent {α : Type} {Q : α → sProp 𝕄} {κ : PUnit → Prog (TpuEff nD τ sig (Elt F) Λ₀ .tc) α} {R : sProp 𝕄}
    {d : Bool} {s r w k s' r' w' k' t x : ℕ} (hw : w < 15) (hws : w < s) (hs : s = 15) (hs' : s' = 15)
    {sm : DmaSem sig} (hsm : sm = xferSem false d w) {sh sh' : Shape} {e e' : EltTy} {sp sp' : Space}
    {src : Memref sig .tc sp' sh' e'} {dst : Memref sig .tc sp sh e} {hsrc hdst} (hN : dst.view.dmaCredit = NX)
    (h : iprop(R ∗ St m K c d s r (w + 1) k s' r' w' k' t x) ⊢ wp frame (wpE (defs₀ (F := F)) 𝒱₀ (c : Thread nD τ) none) Set.univ (κ ⟨⟩) Q) :
    iprop(R ∗ St m K c d s r w k s' r' w' k' t x) ⊢ wp frame (wpE (defs₀ (F := F)) 𝒱₀ (c : Thread nD τ) none) Set.univ
      (.op (.waitDma2 sm src dst hsrc hdst) κ) Q := by
  subst hs hs'
  unfold St at h ⊢
  rw [OD_done, OD_done, add_zero] at h ⊢
  iintro ⟨HX, #HR, #HL, Hd, Hb, Hc, ⟨%W, Ho⟩⟩
  iapply (wp_sent m K c d hw hws hsm hN) $$ [Hd Ho]
  · isplitr; · iexact HR
    isplitl [Hd]; · iexact Hd
    iexact Ho
  iintro ⟨Hd, ⟨%W, Ho⟩⟩
  iapply h
  isplitl [HX]; · iexact HX
  isplitr; · iexact HR
  isplitr; · iexact HL
  isplitl [Hd]; · iexact Hd
  isplitl [Hb]; · iexact Hb
  isplitl [Hc]; · iexact Hc
  iexists W; iexact Ho

/-- The wait for a copy, nothing being owed any more. -/
theorem st_copied {α : Type} {Q : α → sProp 𝕄} {κ : PUnit → Prog (TpuEff nD τ sig (Elt F) Λ₀ .tc) α} {R : sProp 𝕄}
    {d : Bool} {s r w k s' r' w' k' t x : ℕ} (hx : x < 17) (hxt : x < t) (hs : s = 15) (hs' : s' = 15)
    {sm : DmaSem sig} (hsm : sm = copySem x) {sh sh' : Shape} {e e' : EltTy} {sp sp' : Space}
    {src : Memref sig .tc sp' sh' e'} {dst : Memref sig .tc sp sh e} {hsrc hdst} (hN : dst.view.dmaCredit = NC x)
    (h : iprop(R ∗ St m K c d s r w k s' r' w' k' t (x + 1)) ⊢ wp frame (wpE (defs₀ (F := F)) 𝒱₀ (c : Thread nD τ) none) Set.univ (κ ⟨⟩) Q) :
    iprop(R ∗ St m K c d s r w k s' r' w' k' t x) ⊢ wp frame (wpE (defs₀ (F := F)) 𝒱₀ (c : Thread nD τ) none) Set.univ
      (.op (.waitDma2 sm src dst hsrc hdst) κ) Q := by
  subst hs hs'
  unfold St at h ⊢
  rw [OD_done, OD_done, add_zero] at h ⊢
  iintro ⟨HX, #HR, #HL, Hd, Hb, Hc, ⟨%W, Ho⟩⟩
  iapply (wp_copied m K c hx hxt hsm hN) $$ [Hc Ho]
  · isplitr; · iexact HR
    isplitl [Hc]; · iexact Hc
    iexact Ho
  iintro ⟨Hc, ⟨%W, Ho⟩⟩
  iapply h
  isplitl [HX]; · iexact HX
  isplitr; · iexact HR
  isplitr; · iexact HL
  isplitl [Hd]; · iexact Hd
  isplitl [Hb]; · iexact Hb
  isplitl [Hc]; · iexact Hc
  iexists W; iexact Ho

/-- A copy of what direction `d` has brought, from the half blocks `hk` takes out of those kept for copying. -/
theorem st_copy {α : Type} {Q : α → sProp 𝕄} {κ : PUnit → Prog (TpuEff nD τ sig (Elt F) Λ₀ .tc) α} {R : sProp 𝕄}
    {d : Bool} {s r w k s' r' w' k' t x : ℕ} (hx : x ≤ t) (ht : t < 17) {k₂ : ℕ} (hk : Kept m c d k r = iprop(gP c (copyHalves t c) fullShare.right (gathered m) ∗ Kept m c d k₂ r))
    {rc : Rect S8192x512} (hset : rc.set = area (copyHalves t c)) {sm : DmaSem sig} (hsm : sm = copySem t) {h1 : ∀ a, rc.stride a = 1} {h2 : ∀ a, rc.stride a = 1} {hsrc hdst hsem}
    (hN : ((oM : Memref sig .tc .hbm S8192x512 .bf16).slice rc h2).view.amount (.dma sm) = NC t)
    (h : iprop(R ∗ St m K c d s r w k₂ s' r' w' k' (t + 1) x) ⊢ wp frame (wpE (defs₀ (F := F)) 𝒱₀ (c : Thread nD τ) none) Set.univ (κ ⟨⟩) Q) :
    iprop(R ∗ St m K c d s r w k s' r' w' k' t x) ⊢ wp frame (wpE (defs₀ (F := F)) 𝒱₀ (c : Thread nD τ) none) Set.univ
      (.op (.enqueueDma ((gM : Memref sig .tc .vmem S8192x512 .bf16).slice rc h1)
        (.here ((oM : Memref sig .tc .hbm S8192x512 .bf16).slice rc h2)) (.dma sm) hsrc hdst hsem) κ) Q := by
  unfold St Dir at h ⊢
  rw [hk]
  iintro ⟨HX, #HR, #HL, ⟨H1, H2, ⟨Hp, H3⟩, H4⟩, Hb, Hc, ⟨%W, Ho⟩⟩
  iapply (wp_copy m K c ht hx hset hsm hN) $$ [Hc Hp]
  · isplitr; · iexact HR
    isplitl [Hc]; · iexact Hc
    iexact Hp
  iintro Hc
  iapply h
  isplitl [HX]; · iexact HX
  isplitr; · iexact HR
  isplitr; · iexact HL
  isplitl [H1 H2 H3 H4]
  · isplitl [H1]; · iexact H1
    isplitl [H2]; · iexact H2
    isplitl [H3]; · iexact H3
    iexact H4
  isplitl [Hb]; · iexact Hb
  isplitl [Hc]; · iexact Hc
  iexists W; iexact Ho

end Rules

end Cert.Gather

end
-- ==== Proof.Gather.lean ====
/-
# 01_k — the gathering buffer, taken apart and put together

At the start of the exchange a device's gathering buffer is taken apart: its own two half blocks, which it has filled, stay
with it at three shares, and the thirty others go to the neighbours that will fill them. At the end all the shares of all
the half blocks are there again, and they are the whole buffer, holding the gathered array.
-/
module

public import proofs.«01_k».proof.Proof.Moves

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem bigSep_two (Φ : Bool → sProp 𝕄) : bigSep Finset.univ Φ = iprop(Φ false ∗ Φ true) := by
  rw [show (Finset.univ : Finset Bool) = insert false {true} from by decide, bigSep_insert (by decide), bigSep_singleton]; rfl

/-- The whole buffer as its own two half blocks and the half blocks of either direction. -/
theorem gP_parts (c : Dev nD) (q) (f : Arr F) :
    (((c : Thread nD τ).loc cc0_scratch0) ↦{q} f : sProp 𝕄)
      = iprop((gP c {half false 0 c} q f ∗ gP c {half false 1 c} q f)
          ∗ (bigSep (Finset.range 15) fun n => gP c {half false (n + 2) c} q f) ∗ bigSep (Finset.range 15) fun n => gP c {half true (n + 2) c} q f) := by
  rw [gP_pieces, bigSep_univ_sum, bigSep_univ_prod, bigSep_two, ← bigSep_fin_range 15 (fun n => gP c {half false (n + 2) c} q f),
    ← bigSep_fin_range 15 (fun n => gP c {half true (n + 2) c} q f), bigSep_univ_eq_bigSepL [0, 1] (by decide) (by decide)]
  simp only [bigSepL_cons_cons, bigSepL_singleton]
  rfl

/-- The same by the half blocks that the copies move. -/
theorem gP_copies (c : Dev nD) (q) (f : Arr F) :
    (((c : Thread nD τ).loc cc0_scratch0) ↦{q} f : sProp 𝕄) = bigSep (Finset.range 17) fun i => gP c (copyHalves i c) q f := by
  rw [← bigSep_fin_range 17 (fun i => gP c (copyHalves i c) q f)]
  unfold gP
  rw [← pointsTo_biUnion (ℓ := (gM : Memref sig .tc .vmem S8192x512 .bf16).view.loc (c : Thread nD τ)) (q := q) (f := f)
    Finset.univ (fun i : Fin 17 => area (copyHalves i.val c)) (fun p _ p' _ hne => area_disjoint (copyHalves_disjoint c p p' hne))]
  refine congrArg (fun I => (((c : Thread nD τ).loc cc0_scratch0) ↦[I]{q} f : sProp 𝕄)) (Finset.eq_univ_of_forall fun i => ?_).symm
  obtain ⟨p, hp⟩ := copyHalves_cover c ⟨_, row_lt i⟩
  exact Finset.mem_biUnion.mpr ⟨p, Finset.mem_univ _, mem_area.mpr hp⟩

/-- What the signal to the neighbour against direction `d` hands over, said of the signalling device's own buffer. -/
theorem barPay_give (d : Bool) (c : Dev nD) :
    (barPay (nb (!d) c) d : sProp 𝕄) = bigSep (Finset.range 15) fun n => iprop(∃ f, gP c {half d (n + 2) c} fullShare f) := by
  unfold barPay
  refine bigSep_congr fun n _ => ?_
  rw [nb_nb', ← half_step d n (nb (!d) c), nb_nb']

/-- The own half blocks at their three shares. -/
theorem own_shares (c : Dev nD) :
    (iprop(gP c {half false 0 c} fullShare (gathered m) ∗ gP c {half false 1 c} fullShare (gathered m)) : sProp 𝕄)
      = iprop((Held m c false 0 0 ∗ Held m c true 0 0) ∗ gP c (copyHalves 0 c) fullShare.right (gathered m)) := by
  have h0 : (gP c (copyHalves 0 c) fullShare.right (gathered m) : sProp 𝕄)
      = iprop(gP c {half false 0 c} fullShare.right (gathered m) ∗ gP c {half false 1 c} fullShare.right (gathered m)) := by
    unfold copyHalves; rw [if_pos (by decide)]; exact halves_block c false 0 _ _
  rw [h0, gP_share c {half false 0 c} fullShare, gP_share c {half false 1 c} fullShare,
    gP_share c {half false 0 c} fullShare.left, gP_share c {half false 1 c} fullShare.left]
  unfold Held
  rw [bigSep_Ico_succ_bot (by decide : 0 < 0 + 2), bigSep_Ico_succ_bot (by decide : 0 + 1 < 0 + 2), show Finset.Ico (0 + 1 + 1) (0 + 2) = ∅ from rfl, bigSep_empty,
    bigSep_Ico_succ_bot (by decide : 0 < 0 + 2), bigSep_Ico_succ_bot (by decide : 0 + 1 < 0 + 2), show Finset.Ico (0 + 1 + 1) (0 + 2) = ∅ from rfl, bigSep_empty]
  unfold sendPay
  rw [show half true 0 c = half false 1 c from (own_half c).2, show half true (0 + 1) c = half false 0 c from (own_half c).1]
  show iprop(((gP c {half false 0 c} fullShare.left.left (gathered m) ∗ gP c {half false 0 c} fullShare.left.right (gathered m)) ∗ gP c {half false 0 c} fullShare.right (gathered m))
      ∗ (gP c {half false 1 c} fullShare.left.left (gathered m) ∗ gP c {half false 1 c} fullShare.left.right (gathered m)) ∗ gP c {half false 1 c} fullShare.right (gathered m))
    = iprop(((gP c {half false 0 c} fullShare.left.left (gathered m) ∗ gP c {half false 1 c} fullShare.left.left (gathered m) ∗ emp)
        ∗ (gP c {half false 1 c} fullShare.left.right (gathered m) ∗ gP c {half false 0 c} fullShare.left.right (gathered m) ∗ emp))
      ∗ gP c {half false 0 c} fullShare.right (gathered m) ∗ gP c {half false 1 c} fullShare.right (gathered m))
  generalize (gP c {half false 0 c} fullShare.left.left (gathered m) : sProp 𝕄) = A
  generalize (gP c {half false 0 c} fullShare.left.right (gathered m) : sProp 𝕄) = B
  generalize (gP c {half false 1 c} fullShare.left.left (gathered m) : sProp 𝕄) = C
  generalize (gP c {half false 1 c} fullShare.left.right (gathered m) : sProp 𝕄) = D
  generalize (gP c {half false 0 c} fullShare.right (gathered m) : sProp 𝕄) = X
  generalize (gP c {half false 1 c} fullShare.right (gathered m) : sProp 𝕄) = Y
  have hl : iprop(((A ∗ B) ∗ X) ∗ (C ∗ D) ∗ Y) ⊢ iprop(((A ∗ C ∗ emp) ∗ (D ∗ B ∗ emp)) ∗ X ∗ Y) := by
    iintro ⟨⟨⟨HA, HB⟩, HX⟩, ⟨HC, HD⟩, HY⟩
    isplitl [HA HB HC HD]
    · isplitl [HA HC]
      · isplitl [HA]; · iexact HA
        isplitl [HC]; · iexact HC
        iempintro
      isplitl [HD]; · iexact HD
      isplitl [HB]; · iexact HB
      iempintro
    isplitl [HX]; · iexact HX
    iexact HY
  have hr : iprop(((A ∗ C ∗ emp) ∗ (D ∗ B ∗ emp)) ∗ X ∗ Y) ⊢ iprop(((A ∗ B) ∗ X) ∗ (C ∗ D) ∗ Y) := by
    iintro ⟨⟨⟨HA, HC, -⟩, ⟨HD, HB, -⟩⟩, HX, HY⟩
    isplitl [HA HB HX]
    · isplitl [HA HB]
      · isplitl [HA]; · iexact HA
        iexact HB
      iexact HX
    isplitl [HC HD]
    · isplitl [HC]; · iexact HC
      iexact HD
    iexact HY
  exact BI.equiv_iff.mp ⟨hl, hr⟩

/-- TAKEN APART: the buffer with its own half blocks filled. -/
theorem gather_open (c : Dev nD) (f : Arr F) (h0 : ∀ i ∈ area {half false 0 c}, f i = gathered m i) (h1 : ∀ i ∈ area {half false 1 c}, f i = gathered m i) :
    (((c : Thread nD τ).loc cc0_scratch0) ↦{fullShare} f : sProp 𝕄)
      ⊢ iprop(Held m c false 0 0 ∗ Held m c true 0 0 ∗ gP c (copyHalves 0 c) fullShare.right (gathered m)
          ∗ barPay (nb true c) false ∗ barPay (nb false c) true) := by
  have hx (d : Bool) : (bigSep (Finset.range 15) fun n => gP c {half d (n + 2) c} fullShare f) ⊢ (barPay (nb (!d) c) d : sProp 𝕄) := by
    rw [barPay_give]
    refine bigSep_mono fun n _ => ?_
    have e : (gP c {half d (n + 2) c} fullShare f : sProp 𝕄) ⊢ iprop(∃ f, gP c {half d (n + 2) c} fullShare f) := by
      iintro H; iexists f; iexact H
    exact e
  rw [gP_parts, gP_congr c {half false 0 c} fullShare f _ h0, gP_congr c {half false 1 c} fullShare f _ h1, own_shares]
  iintro ⟨⟨⟨HF, HB⟩, HC⟩, H1, H2⟩
  isplitl [HF]; · iexact HF
  isplitl [HB]; · iexact HB
  isplitl [HC]; · iexact HC
  isplitl [H1]; · iapply (hx false); iexact H1
  iapply (hx true); iexact H2

/-- A run cut in two. -/
theorem bigSep_cut (Φ : ℕ → sProp 𝕄) {a b e : ℕ} (h : a ≤ b) (h' : b ≤ e) :
    bigSep (Finset.Ico a e) Φ = iprop(bigSep (Finset.Ico a b) Φ ∗ bigSep (Finset.Ico b e) Φ) := by
  rw [← Finset.Ico_union_Ico_eq_Ico h h', bigSep_union (Finset.Ico_disjoint_Ico_consecutive a b e)]; rfl

/-- The shares that direction `d` has back or has not sent, at the end. -/
theorem ends_eq (c : Dev nD) (d : Bool) :
    (iprop((bigSep (Finset.range 15) fun n => sendPay m c d n) ∗ Held m c d 15 15) : sProp 𝕄)
      = iprop(Held m c d 0 0 ∗ bigSep (Finset.range 15) fun n => gP c {half d (n + 2) c} fullShare.left (gathered m)) := by
  have hs : (bigSep (Finset.range 15) fun n => (gP c {half d (n + 2) c} fullShare.left (gathered m) : sProp 𝕄)) = bigSep (Finset.Ico 2 17) fun n => sendPay m c d n := by
    rw [show Finset.Ico 2 17 = (Finset.range 15).map (addRightEmbedding 2) from by decide, bigSep_map]
    refine bigSep_congr fun n _ => ?_
    show _ = gP c {half d (n + 2) c} (lent d (n + 2)) (gathered m)
    unfold lent; rw [if_neg (by omega)]
  unfold Held
  rw [hs, ← bigSep_cut _ (by decide : 0 ≤ 0 + 2) (by decide : 0 + 2 ≤ 17), Finset.range_eq_Ico]
  exact (bigSep_cut _ (by decide : 0 ≤ 15) (by decide : 15 ≤ 17)).symm

/-- PUT TOGETHER: every share of every half block. -/
theorem gather_close (c : Dev nD) :
    (iprop(((bigSep (Finset.range 15) fun n => sendPay m c false n) ∗ Held m c false 15 15)
        ∗ ((bigSep (Finset.range 15) fun n => sendPay m c true n) ∗ Held m c true 15 15)
        ∗ bigSep (Finset.range 17) fun i => gP c (copyHalves i c) fullShare.right (gathered m)) : sProp 𝕄)
      ⊢ (((c : Thread nD τ).loc cc0_scratch0) ↦{fullShare} gathered m) := by
  have h0 : (gP c (copyHalves 0 c) fullShare.right (gathered m) : sProp 𝕄)
      = iprop(gP c {half false 0 c} fullShare.right (gathered m) ∗ gP c {half false 1 c} fullShare.right (gathered m)) := by
    unfold copyHalves; rw [if_pos (by decide)]; exact halves_block c false 0 _ _
  have hj (d : Bool) : (bigSep (Finset.range 15) fun n => (gP c {half d (n + 2) c} fullShare (gathered m) : sProp 𝕄))
      = iprop((bigSep (Finset.range 15) fun n => gP c {half d (n + 2) c} fullShare.left (gathered m))
          ∗ bigSep (Finset.range 15) fun n => gP c {half d (n + 2) c} fullShare.right (gathered m)) := by
    rw [← bigSep_sep']
    exact bigSep_congr fun n _ => gP_share c _ _ _
  rw [ends_eq, ends_eq, ← gP_copies, gP_parts c fullShare.right, ← h0, gP_parts c fullShare, own_shares, hj, hj]
  iintro ⟨⟨HF, HLf⟩, ⟨HB, HLb⟩, HC, HRf, HRb⟩
  isplitl [HF HB HC]
  · isplitl [HF HB]
    · isplitl [HF]; · iexact HF
      iexact HB
    iexact HC
  isplitl [HLf HRf]
  · isplitl [HLf]; · iexact HLf
    iexact HRf
  isplitl [HLb]; · iexact HLb
  iexact HRb

end Cert.Gather

end
-- ==== Proof.Ends.lean ====
/-
# 01_k — before and after

What a device starts the kernel with and what it leaves, and how the two are taken apart and put together around the
statement `St` of the middle.
-/
module

public import proofs.«01_k».proof.Proof.Gather

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## All the semaphores of a device -/

/-- Something of every own semaphore, by what the semaphore does. -/
theorem roles_split (Ψ : Role → sProp 𝕄) (A : Bool → Bool → ℕ → sProp 𝕄) (C : ℕ → sProp 𝕄)
    (hA : ∀ r d (n : Fin 15), Ψ (.inl (r, d, n)) = A r d n.val) (hC : ∀ i : Fin 17, Ψ (copyRole i) = C i.val) :
    bigSep Finset.univ Ψ
      = iprop((((bigSep (Finset.range 15) (A false false)) ∗ bigSep (Finset.range 15) (A false true))
            ∗ (bigSep (Finset.range 15) (A true false)) ∗ bigSep (Finset.range 15) (A true true))
          ∗ (bigSep (Finset.range 17) C) ∗ bigSep Finset.univ fun j : Fin 4 => Ψ (.inr (.inr j))) := by
  have h (r d : Bool) : (bigSep Finset.univ fun n : Fin 15 => Ψ (.inl (r, d, n))) = bigSep (Finset.range 15) (A r d) := by
    rw [← bigSep_fin_range 15 (A r d)]; exact bigSep_congr fun n _ => hA r d n
  have h' : (bigSep Finset.univ fun i : Fin 17 => Ψ (copyRole i)) = bigSep (Finset.range 17) C := by
    rw [← bigSep_fin_range 17 C]; exact bigSep_congr fun n _ => hC n
  rw [bigSep_univ_sum, bigSep_univ_sum, bigSep_univ_prod, bigSep_two, bigSep_univ_prod, bigSep_univ_prod, bigSep_two, bigSep_two, h, h, h, h]
  exact congrArg (fun X => iprop(_ ∗ X ∗ _)) h'

/-- Something of every role and of the barrier. -/
theorem bigSep_option (Ψ : Option Role → sProp 𝕄) :
    bigSep Finset.univ Ψ = iprop(Ψ none ∗ bigSep Finset.univ fun k : Role => Ψ (some k)) := by
  rw [show (Finset.univ : Finset (Option Role)) = insert none (Finset.univ.map Function.Embedding.some) from by
      ext k; cases k <;> simp,
    bigSep_insert (by simp), bigSep_map]
  rfl

/-! ## Before -/

/-- The duties device `c` will pay: a unit to either neighbour's barrier, the two of each transfer, one per copy. -/
def payToks (c : Dev nD) : sProp 𝕄 :=
  iprop(dutyTok ER (barCell (nb true c)) 0 false ∗ dutyTok ER (barCell (nb false c)) 0 true
    ∗ (bigSep Finset.univ fun d : Bool => bigSep (Finset.range 15) fun n =>
        iprop(dutyTok ER (xferCell false d n c) 0 false ∗ dutyTok ER (xferCell true d n (nb d c)) 0 false))
    ∗ bigSep (Finset.range 17) fun i => dutyTok ER (copyCell i c) 0 false)

/-- The credit it will wait for: two units at its barrier, every arrival. -/
def credits (c : Dev nD) : sProp 𝕄 :=
  iprop(cred (tallyAt (barCell c) () 2)
    ∗ bigSep Finset.univ fun d : Bool => bigSep (Finset.range 15) fun n => cred (tallyAt (xferCell true d n c) () NX))

/-- What device `c` starts with, besides its buffers. -/
def Start (c : Dev nD) : sProp 𝕄 :=
  iprop((bigSep Finset.univ fun k : Option Role => atPos ER (kcell (c, k)) 0 ∅ 0) ∗ payToks c ∗ credits c)

/-- Direction `d` before the barrier. -/
def Idle (c : Dev nD) (d : Bool) : sProp 𝕄 :=
  iprop((bigSep (Finset.range 15) fun n => iprop(dutyTok ER (xferCell false d n c) 0 false ∗ dutyTok ER (xferCell true d n (nb d c)) 0 false))
    ∗ Due c d 0 ∗ Out c d 0)

def Spares (c : Dev nD) : sProp 𝕄 := bigSep Finset.univ fun j : Fin 4 => atPos ER (kcell (c, some (.inr (.inr j)))) 0 ∅ 0

/-- The start, taken apart. -/
theorem start_open (c : Dev nD) (fo : Arr F) :
    iprop(Start c ∗ (((c : Thread nD τ).loc main_v1) ↦{fullShare} fo))
      ⊢ iprop(atPos ER (barCell c) 0 ∅ 0 ∗ cred (tallyAt (barCell c) () 2)
          ∗ dutyTok ER (barCell (nb true c)) 0 false ∗ dutyTok ER (barCell (nb false c)) 0 true
          ∗ Idle c false ∗ Idle c true ∗ Cps m c 0 0 ∗ Spares c) := by
  have hv : ((((c : Thread nD τ).loc main_v1) ↦{fullShare} fo) : sProp 𝕄) ⊢ bigSep (Finset.range 17) fun i => iprop(∃ f, oP c (copyHalves i c) fullShare f) := by
    rw [oP_copies, bigSep_fin_range 17 (fun i => oP c (copyHalves i c) fullShare fo)]
    refine bigSep_mono fun i _ => ?_
    have e : (oP c (copyHalves i c) fullShare fo : sProp 𝕄) ⊢ iprop(∃ f, oP c (copyHalves i c) fullShare f) := by
      iintro H; iexists fo; iexact H
    exact e
  unfold Start payToks credits Idle Due Out Cps Spares
  rw [bigSep_option, bigSep_two, bigSep_two,
    roles_split (fun k => atPos ER (kcell (c, some k)) 0 ∅ 0) (fun r d n => atPos ER (xferCell r d n c) 0 ∅ 0) (fun i => atPos ER (copyCell i c) 0 ∅ 0)
      (fun _ _ _ => rfl) (fun _ => rfl)]
  simp only [← Finset.range_eq_Ico, Finset.range_zero, bigSep_empty, bigSep_sep']
  iintro ⟨⟨⟨HaB, ⟨⟨Ha1, Ha2⟩, Ha3, Ha4⟩, HaC, HaS⟩, ⟨Ht1, Ht2, ⟨Hx1, Hx2⟩, HtC⟩, HcB, Hc1, Hc2⟩, Hv⟩
  ihave Hv := hv $$ Hv
  isplitl [HaB]; · iexact HaB
  isplitl [HcB]; · iexact HcB
  isplitl [Ht1]; · iexact Ht1
  isplitl [Ht2]; · iexact Ht2
  isplitl [Ha1 Ha3 Hx1 Hc1]
  · isplitl [Hx1]; · iexact Hx1
    isplitl [Ha3 Hc1]
    · isplitl [Hc1]; · iexact Hc1
      iexact Ha3
    iexact Ha1
  isplitl [Ha2 Ha4 Hx2 Hc2]
  · isplitl [Hx2]; · iexact Hx2
    isplitl [Ha4 Hc2]
    · isplitl [Hc2]; · iexact Hc2
      iexact Ha4
    iexact Ha2
  isplitl [HaC HtC Hv]
  · isplitl [HtC Hv]
    · isplitl [HtC]; · iexact HtC
      iexact Hv
    isplitl [HaC]; · iexact HaC
    isplitl []; · iempintro
    isplitl [] <;> iempintro
  iexact HaS

/-- Direction `d` after the barrier. -/
theorem dir_start (c : Dev nD) (d : Bool) : iprop(Idle c d ∗ barPay c d ∗ Held m c d 0 0) ⊢ Dir m c d 0 0 0 2 := by
  unfold Idle barPay Dir Unsent Kept Came Under Back
  rw [← Finset.range_eq_Ico, show Finset.Ico 2 (0 + 2) = ∅ from rfl, show Finset.range 0 = ∅ from rfl, show Finset.Ico 0 0 = ∅ from rfl,
    bigSep_empty, bigSep_empty, bigSep_empty, bigSep_empty]
  iintro ⟨⟨Ht, HD, HO⟩, Hb, HH⟩
  isplitl [Ht Hb]
  · have e : (iprop((bigSep (Finset.range 15) fun n => iprop(dutyTok ER (xferCell false d n c) 0 false ∗ dutyTok ER (xferCell true d n (nb d c)) 0 false))
        ∗ bigSep (Finset.range 15) fun n => iprop(∃ f, gP (nb d c) {half d n c} fullShare f)) : sProp 𝕄)
        = bigSep (Finset.range 15) fun n => iprop(dutyTok ER (xferCell false d n c) 0 false ∗ dutyTok ER (xferCell true d n (nb d c)) 0 false
          ∗ ∃ f, gP (nb d c) {half d n c} fullShare f) := by
      rw [← bigSep_sep']; exact bigSep_congr fun n _ => sepA _ _ _
    iapply (Entails.of_eq e)
    isplitl [Ht]; · iexact Ht
    iexact Hb
  isplitl [HH]; · iexact HH
  isplitl []; · iempintro
  isplitl [HD]; · iexact HD
  isplitl []; · iempintro
  isplitl [HO]; · iexact HO
  isplitl []; · iempintro
  iempintro

/-! ## After -/

/-- What device `c` leaves: both buffers with the gathered array, every semaphore at zero. -/
def Finish (c : Dev nD) : sProp 𝕄 :=
  iprop((((c : Thread nD τ).loc cc0_scratch0) ↦{fullShare} gathered m) ∗ (((c : Thread nD τ).loc main_v1) ↦{fullShare} gathered m)
    ∗ semVal (barCell c) 0 ∗ bigSep Finset.univ fun k : Role => semVal (kcell (c, some k)) 0)

theorem dir_end (c : Dev nD) (d : Bool) : Dir m c d 15 15 15 17 ⊢ iprop((bigSep (Finset.range 15) fun n => semVal (xferCell true d n c) 0)
    ∗ (bigSep (Finset.range 15) fun n => semVal (xferCell false d n c) 0) ∗ (bigSep (Finset.range 15) fun n => sendPay m c d n) ∗ Held m c d 15 15) := by
  unfold Dir Came Back
  rw [bigSep_sep']
  iintro ⟨-, HH, -, -, HC, -, -, HB, HP⟩
  isplitl [HC]; · iexact HC
  isplitl [HB]; · iexact HB
  isplitl [HP]; · iexact HP
  iexact HH

theorem cps_end (c : Dev nD) : Cps m c 17 17 ⊢ iprop((bigSep (Finset.range 17) fun i => semVal (copyCell i c) 0)
    ∗ (((c : Thread nD τ).loc main_v1) ↦{fullShare} gathered m) ∗ bigSep (Finset.range 17) fun i => gP c (copyHalves i c) fullShare.right (gathered m)) := by
  unfold Cps copyPay
  simp only [bigSep_sep']
  rw [oP_copies, bigSep_fin_range 17 (fun i => oP c (copyHalves i c) fullShare (gathered m))]
  iintro ⟨-, -, -, HC, HO, HG⟩
  isplitl [HC]; · iexact HC
  isplitl [HO]; · iexact HO
  iexact HG

/-- The spare cells close, never used. -/
theorem spares_end (K : Dev nD × Option Role → ℕ) (c : Dev nD) : iprop(Rec m K ∗ Spares c) ⊢ |={Set.univ}=> (bigSep Finset.univ fun j : Fin 4 =>
    semVal (kcell (c, some (.inr (.inr j)))) 0 : sProp 𝕄) := by
  have e (j : Fin 4) : iprop(Rec m K ∗ atPos ER (kcell (c, some (.inr (.inr j)))) 0 ∅ 0) ⊢ |={Set.univ}=> (semVal (kcell (c, some (.inr (.inr j)))) 0 : sProp 𝕄) := by
    iintro ⟨#HR, Ha⟩
    iapply (Rounds.cell_close ER (Rd m) (Set.mem_univ (K (c, some (.inr (.inr j))))) (fun h => h) (R := 0) (duties_spare m c j))
    isplitr; · iapply (Rec_inv m K (c, some (.inr (.inr j)))); iexact HR
    iexact Ha
  unfold Spares
  refine BIBase.Entails.trans (sep_mono_left (BI.bigSep_of_persistent (Finset.univ : Finset (Fin 4)) (Rec m K))) ?_
  rw [← bigSep_sep']
  exact (bigSep_mono fun j _ => e j).trans (bigSep_fupd _ _)

/-- The barrier's cell closes after its round. -/
theorem bar_end (K : Dev nD × Option Role → ℕ) (c : Dev nD) : iprop(Rec m K ∗ atPos ER (barCell c) (0 + 1) ∅ 0) ⊢ |={Set.univ}=> (semVal (barCell c) 0 : sProp 𝕄) := by
  iintro ⟨#HR, Ha⟩
  iapply (Rounds.cell_close ER (Rd m) (Set.mem_univ (K (c, none))) (fun h => h) (R := 0 + 1) (duties_later m (kcell (c, none))))
  isplitr; · iapply (Rec_inv m K (c, none)); iexact HR
  iexact Ha

/-- Put together. -/
theorem finish_close (c : Dev nD) :
    iprop(Dir m c false 15 15 15 17 ∗ Dir m c true 15 15 15 17 ∗ Cps m c 17 17 ∗ semVal (barCell c) 0
        ∗ bigSep Finset.univ fun j : Fin 4 => semVal (kcell (c, some (.inr (.inr j)))) 0)
      ⊢ Finish m c := by
  unfold Finish
  rw [roles_split (fun k => (semVal (kcell (c, some k)) 0 : sProp 𝕄)) (fun r d n => semVal (xferCell r d n c) 0) (fun i => semVal (copyCell i c) 0)
      (fun _ _ _ => rfl) (fun _ => rfl)]
  iintro ⟨H1, H2, HC, HB, HS⟩
  ihave H1 := (dir_end m c false) $$ H1
  ihave H2 := (dir_end m c true) $$ H2
  ihave HC := (cps_end m c) $$ HC
  icases H1 with ⟨Hr1, Hs1, Hp1⟩
  icases H2 with ⟨Hr2, Hs2, Hp2⟩
  icases HC with ⟨Hc, Hv, Hg⟩
  isplitl [Hp1 Hp2 Hg]
  · iapply (gather_close m c)
    isplitl [Hp1]; · iexact Hp1
    isplitl [Hp2]; · iexact Hp2
    iexact Hg
  isplitl [Hv]; · iexact Hv
  isplitl [HB]; · iexact HB
  isplitl [Hr1 Hr2 Hs1 Hs2]
  · isplitl [Hs1 Hs2]
    · isplitl [Hs1]; · iexact Hs1
      iexact Hs2
    isplitl [Hr1]; · iexact Hr1
    iexact Hr2
  isplitl [Hc]; · iexact Hc
  iexact HS

end Cert.Gather

end
-- ==== Proof.Own.lean ====
/-
# 01_k — a device's own block

A device first stores its own block, in two halves, into its gathering buffer. After that the two half blocks hold what
the gathered array has there, and the rest of the buffer is as it was.
-/
module

public import proofs.«01_k».proof.Proof.Regions
public import Idealize.ShloMosaic.Lib.Pipeline.Value

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What one of the two stores leaves: in its half block, the gathered array. -/
theorem stored (c : Dev nD) (u : ℕ) (hu : u < 2) {off : Fin 2 → ℕ} (hoff : off = ![256 * (2 * c.val + u), 0]) (inb) {off' : Fin 2 → ℕ} (hoff' : off' = ![256 * u, 0]) (inb')
    (fd : Arr F) (w : S256x512.Idx → Elt F .bf16)
    (hw : w = (xM : Memref sig .tc .vmem S512x512 .bf16).view.readAt (Elt F) (Rect.unit (s := S512x512) off' S256x512.size inb').toLoadRect (m ((c : Thread nD τ).loc main_arg0))) :
    ∀ i ∈ area {2 * c.val + u}, ((gM : Memref sig .tc .vmem S8192x512 .bf16).access (Rect.unit (s := S8192x512) off S256x512.size inb)).write (Elt F) fd w Finset.univ i
      = gathered m i := by
  subst hw hoff hoff'
  intro i hi
  rw [← area_half _ inb, ← Rect.map_emb_univ] at hi
  obtain ⟨x, -, rfl⟩ := Finset.mem_map.mp hi
  refine (View.write_emb_of_mem (v := (gM : Memref sig .tc .vmem S8192x512 .bf16).access (Rect.unit (s := S8192x512) ![256 * (2 * c.val + u), 0] S256x512.size inb))
    _ _ (Finset.mem_univ x)).trans ?_
  have h0 : (x 0).val < 256 := (x 0).isLt
  have hval : ∀ a, ((Rect.unit (s := S8192x512) ![256 * (2 * c.val + u), 0] S256x512.size inb).emb x a).val
      = (![256 * (2 * c.val + u), 0] : Fin 2 → ℕ) a + (x a).val := fun a => by
    rw [Rect.emb_apply]
    exact congrArg _ (Nat.one_mul _)
  have hc : homeOf ((Rect.unit (s := S8192x512) ![256 * (2 * c.val + u), 0] S256x512.size inb).emb x) = c := by
    refine Fin.ext ?_
    show ((Rect.unit (s := S8192x512) ![256 * (2 * c.val + u), 0] S256x512.size inb).emb x 0).val / 512 = c.val
    rw [hval 0]
    show (256 * (2 * c.val + u) + (x 0).val) / 512 = c.val
    omega
  have hp : placeOf ((Rect.unit (s := S8192x512) ![256 * (2 * c.val + u), 0] S256x512.size inb).emb x)
      = (Rect.unit (s := S512x512) ![256 * u, 0] S256x512.size inb').emb x := by
    funext a
    refine Fin.ext ?_
    fin_cases a
    · show ((Rect.unit (s := S8192x512) ![256 * (2 * c.val + u), 0] S256x512.size inb).emb x 0).val % 512 = 256 * u + 1 * (x 0).val
      rw [hval 0]
      show (256 * (2 * c.val + u) + (x 0).val) % 512 = _
      omega
    · show ((Rect.unit (s := S8192x512) ![256 * (2 * c.val + u), 0] S256x512.size inb).emb x 1).val = 0 + 1 * (x 1).val
      rw [hval 1]
      show 0 + (x 1).val = _
      omega
  unfold gathered
  rw [hc, hp]
  rfl

/-- A store leaves the half blocks that it does not write as they were. -/
theorem stored_off (u v : ℕ) (huv : v ≠ u) {off : Fin 2 → ℕ} (hoff : off = ![256 * u, 0]) (inb) (fd : Arr F) (w : S256x512.Idx → Elt F .bf16) :
    ∀ i ∈ area {v}, ((gM : Memref sig .tc .vmem S8192x512 .bf16).access (Rect.unit (s := S8192x512) off S256x512.size inb)).write (Elt F) fd w Finset.univ i = fd i := by
  subst hoff
  intro i hi
  refine View.write_of_not_mem _ _ _ ?_
  intro h
  have h' : i ∈ area {u} := by
    rw [← area_half u inb, ← View.set_slice_whole (b := (cc0_scratch0 : Ref sig .tc))]
    exact h
  exact Finset.disjoint_left.mp (area_disjoint (Finset.disjoint_singleton.mpr huv)) hi h'

end Cert.Gather

end
-- ==== Proof.Opening.lean ====
/-
# 01_k — the kernel up to the barrier, and its end

The own block is stored in the gathering buffer, its copy into the result starts, and the neighbours meet at the barrier,
handing over the half blocks they will receive; after that a device is where `St` describes it.
-/
module

public import proofs.«01_k».proof.Proof.Ends
public import proofs.«01_k».proof.Proof.Own

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The gathering buffer of device `c` and the buffer with its own block. -/
abbrev gBuf (c : Dev nD) (f : Arr F) : sProp 𝕄 := (((c : Thread nD τ).loc cc0_scratch0) ↦{fullShare} f)
abbrev xBuf (c : Dev nD) : sProp 𝕄 := (((c : Thread nD τ).loc cc0_stg0_0) ↦{fullShare} m ((c : Thread nD τ).loc main_arg0))
abbrev vBuf (c : Dev nD) (f : Arr F) : sProp 𝕄 := (((c : Thread nD τ).loc main_v1) ↦{fullShare} f)

section Rules

variable (K : Dev nD × Option Role → ℕ) (c : Dev nD)

theorem half_own {c : Dev nD} (u : ℕ) (hu : u < 2) : half false u c = 2 * c.val + u := by
  unfold half seg; rw [show u / 2 = 0 by omega, own_blk, Nat.mod_eq_of_lt hu]; rfl

/-- What the two stores leave in the own half blocks. -/
theorem filled (fg : Arr F) {o0 o1 : Fin 2 → ℕ} (ho0 : o0 = ![256 * (2 * c.val + 0), 0]) (ho1 : o1 = ![256 * (2 * c.val + 1), 0]) (g0 g1 x0 x1)
    (w0 : S256x512.Idx → Elt F .bf16)
    (hw0 : w0 = (xM : Memref sig .tc .vmem S512x512 .bf16).view.readAt (Elt F) (Rect.unit (s := S512x512) ![0, 0] S256x512.size x0).toLoadRect (m ((c : Thread nD τ).loc main_arg0)))
    (w1 : S256x512.Idx → Elt F .bf16)
    (hw1 : w1 = (xM : Memref sig .tc .vmem S512x512 .bf16).view.readAt (Elt F) (Rect.unit (s := S512x512) ![256, 0] S256x512.size x1).toLoadRect (m ((c : Thread nD τ).loc main_arg0)))
    {f : Arr F}
    (hf : f = ((gM : Memref sig .tc .vmem S8192x512 .bf16).access (Rect.unit (s := S8192x512) o1 S256x512.size g1)).write (Elt F)
      (((gM : Memref sig .tc .vmem S8192x512 .bf16).access (Rect.unit (s := S8192x512) o0 S256x512.size g0)).write (Elt F) fg w0 Finset.univ) w1 Finset.univ) :
    (∀ i ∈ area {half false 0 c}, f i = gathered m i) ∧ ∀ i ∈ area {half false 1 c}, f i = gathered m i := by
  rw [half_own 0 (by decide), half_own 1 (by decide), hf]
  exact ⟨fun i hi => (stored_off (2 * c.val + 1) (2 * c.val + 0) (by omega) ho1 g1 _ _ i hi).trans (stored m c 0 (by decide) ho0 g0 rfl x0 fg _ hw0 i hi),
    fun i hi => stored m c 1 (by decide) ho1 g1 rfl x1 _ _ hw1 i hi⟩

/-- The own block is loaded and stored, one half after the other. -/
theorem st_fill {α : Type} {Q : α → sProp 𝕄} {κ : PUnit → Prog (TpuEff nD τ sig (Elt F) Λ₀ .tc) α} {R : sProp 𝕄} (fg : Arr F)
    {o0 o1 : Fin 2 → ℕ} (ho0 : o0 = ![256 * (2 * c.val + 0), 0]) (ho1 : o1 = ![256 * (2 * c.val + 1), 0])
    {x0 x1 g0 g1 l1 l2 l3 l4 s1 s2 t1 t2}
    (h : ∀ f : Arr F, (∀ i ∈ area {half false 0 c}, f i = gathered m i) → (∀ i ∈ area {half false 1 c}, f i = gathered m i) →
      iprop(R ∗ xBuf m c ∗ gBuf c f) ⊢ wp frame (wpE (defs₀ (F := F)) 𝒱₀ (c : Thread nD τ) none) Set.univ (κ ⟨⟩) Q) :
    iprop(R ∗ xBuf m c ∗ gBuf c fg) ⊢ wp frame (wpE (defs₀ (F := F)) 𝒱₀ (c : Thread nD τ) none) Set.univ
      (.op (.load (xM : Memref sig .tc .vmem S512x512 .bf16) (Rect.unit (s := S512x512) ![0, 0] S256x512.size x0).toLoadRect l1) fun v =>
        .op (.load (gM : Memref sig .tc .vmem S8192x512 .bf16) (Rect.unit (s := S8192x512) o0 S256x512.size g0).toLoadRect l2) fun _ =>
        .op (.store (gM : Memref sig .tc .vmem S8192x512 .bf16) (Rect.unit (s := S8192x512) o0 S256x512.size g0) (k0_pay1 v) Finset.univ s1 t1) fun _ =>
        .op (.load (xM : Memref sig .tc .vmem S512x512 .bf16) (Rect.unit (s := S512x512) ![256, 0] S256x512.size x1).toLoadRect l3) fun v' =>
        .op (.load (gM : Memref sig .tc .vmem S8192x512 .bf16) (Rect.unit (s := S8192x512) o1 S256x512.size g1).toLoadRect l4) fun _ =>
        .op (.store (gM : Memref sig .tc .vmem S8192x512 .bf16) (Rect.unit (s := S8192x512) o1 S256x512.size g1) (k0_pay2 v') Finset.univ s2 t2) κ) Q := by
  have hp1 (v : Vec F S256x512 .bf16) : k0_pay1 v = v := by simp only [k0_pay1, shapeCast_self]
  have hp2 (v : Vec F S256x512 .bf16) : k0_pay2 v = v := by simp only [k0_pay2, shapeCast_self]
  iintro ⟨HR, Hx, Hg⟩
  iapply (wp_load 𝒱₀ (c : Thread nD τ) none Set.univ (m := (xM : Memref sig .tc .vmem S512x512 .bf16)) (Finset.subset_univ _)) $$ Hx; iintro Hx
  iapply (wp_load 𝒱₀ (c : Thread nD τ) none Set.univ (m := (gM : Memref sig .tc .vmem S8192x512 .bf16)) (Finset.subset_univ _)) $$ Hg; iintro Hg
  iapply (wp_store 𝒱₀ (c : Thread nD τ) none Set.univ (m := (gM : Memref sig .tc .vmem S8192x512 .bf16))
    (r := Rect.unit (s := S8192x512) o0 S256x512.size g0) (Mk := Finset.univ) (Finset.subset_univ _)) $$ Hg; iintro Hg
  iapply (wp_load 𝒱₀ (c : Thread nD τ) none Set.univ (m := (xM : Memref sig .tc .vmem S512x512 .bf16)) (Finset.subset_univ _)) $$ Hx; iintro Hx
  iapply (wp_load 𝒱₀ (c : Thread nD τ) none Set.univ (m := (gM : Memref sig .tc .vmem S8192x512 .bf16)) (Finset.subset_univ _)) $$ Hg; iintro Hg
  iapply (wp_store 𝒱₀ (c : Thread nD τ) none Set.univ (m := (gM : Memref sig .tc .vmem S8192x512 .bf16))
    (r := Rect.unit (s := S8192x512) o1 S256x512.size g1) (Mk := Finset.univ) (Finset.subset_univ _)) $$ Hg; iintro Hg
  have hf := filled m c fg ho0 ho1 g0 g1 x0 x1 _ (hp1 _) _ (hp2 _) rfl
  iapply (h _ hf.1 hf.2)
  isplitl [HR]; · iexact HR
  isplitl [Hx]; · iexact Hx
  iexact Hg

/-- Device `c` at the barrier, `k` (none or one) of the copies started. -/
def Ready (k : ℕ) : sProp 𝕄 :=
  iprop(Rec m K ∗ levAts L lv ∗ (∃ W, owes (c : Thread nD τ) (O₀ c) W) ∗ Cps m c k 0 ∗ Held m c false 0 0 ∗ Held m c true 0 0
    ∗ barPay (nb true c) false ∗ barPay (nb false c) true ∗ atPos ER (barCell c) 0 ∅ 0 ∗ cred (tallyAt (barCell c) () 2)
    ∗ dutyTok ER (barCell (nb true c)) 0 false ∗ dutyTok ER (barCell (nb false c)) 0 true ∗ Idle c false ∗ Idle c true)

theorem ready_open {R : sProp 𝕄} {W : Waits sig Unit} (f fo : Arr F) (h0 : ∀ i ∈ area {half false 0 c}, f i = gathered m i) (h1 : ∀ i ∈ area {half false 1 c}, f i = gathered m i) :
    iprop((R ∗ Rec m K ∗ levAts L lv ∗ Start c ∗ vBuf c fo ∗ owes (c : Thread nD τ) (O₀ c) W) ∗ xBuf m c ∗ gBuf c f)
      ⊢ iprop((R ∗ xBuf m c ∗ Spares c) ∗ gP c (copyHalves 0 c) fullShare.right (gathered m) ∗ Ready m K c 0) := by
  iintro ⟨⟨HR, #HK, #Hlev, Hs, Hv, Ho⟩, Hx, Hg⟩
  ihave Hg := (gather_open m c f h0 h1) $$ Hg
  icases Hg with ⟨H1, H2, H3, H4, H5⟩
  ihave Hs := (start_open m c fo) $$ [Hs Hv]
  · isplitl [Hs]; · iexact Hs
    iexact Hv
  icases Hs with ⟨HB, Hc, Ht1, Ht2, HI1, HI2, HC, HS⟩
  isplitl [HR Hx HS]
  · isplitl [HR]; · iexact HR
    isplitl [Hx]; · iexact Hx
    iexact HS
  isplitl [H3]; · iexact H3
  unfold Ready
  isplitr; · iexact HK
  isplitr; · iexact Hlev
  isplitl [Ho]; · iexists W; iexact Ho
  isplitl [HC]; · iexact HC
  isplitl [H1]; · iexact H1
  isplitl [H2]; · iexact H2
  isplitl [H4]; · iexact H4
  isplitl [H5]; · iexact H5
  isplitl [HB]; · iexact HB
  isplitl [Hc]; · iexact Hc
  isplitl [Ht1]; · iexact Ht1
  isplitl [Ht2]; · iexact Ht2
  isplitl [HI1]; · iexact HI1
  iexact HI2

/-- The own block's copy starts. -/
theorem st_first {α : Type} {Q : α → sProp 𝕄} {κ : PUnit → Prog (TpuEff nD τ sig (Elt F) Λ₀ .tc) α} {R : sProp 𝕄}
    {rc : Rect S8192x512} (hset : rc.set = area (copyHalves 0 c)) {sm : DmaSem sig} (hsm : sm = copySem 0) {h1 : ∀ a, rc.stride a = 1} {h2 : ∀ a, rc.stride a = 1} {hsrc hdst hsem}
    (hN : ((oM : Memref sig .tc .hbm S8192x512 .bf16).slice rc h2).view.amount (.dma sm) = NC 0)
    (h : iprop(R ∗ Ready m K c 1) ⊢ wp frame (wpE (defs₀ (F := F)) 𝒱₀ (c : Thread nD τ) none) Set.univ (κ ⟨⟩) Q) :
    iprop(R ∗ gP c (copyHalves 0 c) fullShare.right (gathered m) ∗ Ready m K c 0) ⊢ wp frame (wpE (defs₀ (F := F)) 𝒱₀ (c : Thread nD τ) none) Set.univ
      (.op (.enqueueDma ((gM : Memref sig .tc .vmem S8192x512 .bf16).slice rc h1)
        (.here ((oM : Memref sig .tc .hbm S8192x512 .bf16).slice rc h2)) (.dma sm) hsrc hdst hsem) κ) Q := by
  have h' := h
  unfold Ready at h' ⊢
  iintro ⟨HR, Hg, #HK, #Hlev, Ho, HC, Hrest⟩
  iapply (wp_copy m K c (i := 0) (x := 0) (by decide) (Nat.le_refl 0) hset hsm hN) $$ [HC Hg]
  · isplitr; · iexact HK
    isplitl [HC]; · iexact HC
    iexact Hg
  iintro HC
  iapply h'
  isplitl [HR]; · iexact HR
  isplitr; · iexact HK
  isplitr; · iexact Hlev
  isplitl [Ho]; · iexact Ho
  isplitl [HC]; · iexact HC
  iexact Hrest

/-- The BARRIER: a unit to either neighbour, with the half blocks it will fill, and the wait for theirs. -/
theorem st_meet {α : Type} {Q : α → sProp 𝕄} {κ : PUnit → Prog (TpuEff nD τ sig (Elt F) Λ₀ .tc) α} {R : sProp 𝕄}
    {p q : Dev nD} (hp : p = nb true c) (hq : q = nb false c)
    (h : iprop((R ∗ atPos ER (barCell c) (0 + 1) ∅ 0) ∗ St m K c false 0 0 0 2 0 0 0 2 1 0)
      ⊢ wp frame (wpE (defs₀ (F := F)) 𝒱₀ (c : Thread nD τ) none) Set.univ (κ ⟨⟩) Q) :
    iprop(R ∗ Ready m K c 1) ⊢ wp frame (wpE (defs₀ (F := F)) 𝒱₀ (c : Thread nD τ) none) Set.univ
      (.op (.semSignal (Dev.tc p : Thread nD τ) barS (1#32).toInt) fun _ => .op (.semSignal (Dev.tc q : Thread nD τ) barS (1#32).toInt) fun _ =>
        .op (.semWait barS (2#32).toInt) κ) Q := by
  subst hp hq
  have hpay (e d : Bool) : (Rd m).payload ((nb e c : Thread nD τ), SemLoc.reg barS) 0 d = barPay (nb e c) d := payload_at m (nb e c) none d
  unfold Ready
  iintro ⟨HR, #HK, #Hlev, ⟨%W, Ho⟩, HC, HH1, HH2, HP1, HP2, HB, Hcr, Ht1, Ht2, HI1, HI2⟩
  iapply (Rounds.wp_signal 𝒱₀ ER (Rd m) (c : Thread nD τ) none (dst := (nb true c : Thread nD τ)) (κ := K (nb true c, none)) (d := false)
    (mem_duties m (nb true c) none false (Finset.mem_univ _)) ((amount_at m (nb true c) none false).trans (by decide)) () (OX c 0 0 + tallyAt (barCell (nb false c)) () 1) rfl)
    $$ [Ho Ht1 HP1]
  · isplitr; · iapply (Rec_inv m K (nb true c, none)); iexact HK
    isplitl [Ho]; · iexact Ho
    isplitl [Ht1]; · iexact Ht1
    isplitl [HP1]; · iapply (Entails.of_eq (hpay true false).symm); iexact HP1
    iapply (Rec_reached m K (nb true c, none)); iexact HK
  iintro Ho
  iapply (Rounds.wp_signal 𝒱₀ ER (Rd m) (c : Thread nD τ) none (dst := (nb false c : Thread nD τ)) (κ := K (nb false c, none)) (d := true)
    (mem_duties m (nb false c) none true (Finset.mem_univ _)) ((amount_at m (nb false c) none true).trans (by decide)) () (OX c 0 0) rfl)
    $$ [Ho Ht2 HP2]
  · isplitr; · iapply (Rec_inv m K (nb false c, none)); iexact HK
    isplitl [Ho]; · iexact Ho
    isplitl [Ht2]; · iexact Ht2
    isplitl [HP2]; · iapply (Entails.of_eq (hpay false true).symm); iexact HP2
    iapply (Rec_reached m K (nb false c, none)); iexact HK
  iintro Ho
  iapply (Rounds.wp_wait_rest_token 𝒱₀ ER (Rd m) (c : Thread nD τ) none (κ := K (c, none))
    (wpE_semWait_eq 𝒱₀ (c : Thread nD τ) none Set.univ) (Set.mem_univ _) () (O := OX c 0 0) (W := W) (R := 0) (m := 0) (T := ∅)
    (by rw [show (Rd m).expect ((c : Thread nD τ), SemLoc.reg barS) 0 = _ from expect_at m c none]; decide)) $$ [Hcr Ho HB]
  · isplitr; · iapply (Rec_inv m K (c, none)); iexact HK
    isplitl [Hcr]; · iexact Hcr
    isplitl [Ho]; · iexact Ho
    isplitr; · iapply (mayWait_of_level c none 0 0 (by decide) (by decide)); iexact Hlev
    iexact HB
  iintro ⟨Ho, HB, -, Hp⟩
  ihave Hp := (Entails.of_eq (show bigSep ((Rd m).duties ((c : Thread nD τ), SemLoc.reg barS) 0 \ ∅) (fun d => (Rd m).payload ((c : Thread nD τ), SemLoc.reg barS) 0 d)
    = iprop(barPay c false ∗ barPay c true) from (rest_at m c none).trans (bigSep_two _))) $$ Hp
  icases Hp with ⟨HP1, HP2⟩
  iapply h
  isplitl [HR HB]
  · isplitl [HR]; · iexact HR
    iexact HB
  unfold St
  isplitr; · iexact HK
  isplitr; · iexact Hlev
  isplitl [HI1 HP1 HH1]
  · iapply (dir_start m c false)
    isplitl [HI1]; · iexact HI1
    isplitl [HP1]; · iexact HP1
    iexact HH1
  isplitl [HI2 HP2 HH2]
  · iapply (dir_start m c true)
    isplitl [HI2]; · iexact HI2
    isplitl [HP2]; · iexact HP2
    iexact HH2
  isplitl [HC]; · iexact HC
  iexists _; iexact Ho

/-- The other direction's turn. -/
theorem st_turn {R X : sProp 𝕄} (d : Bool) {s r w k s' r' w' k' t x : ℕ} (h : iprop(R ∗ St m K c (!d) s' r' w' k' s r w k t x) ⊢ X) :
    iprop(R ∗ St m K c d s r w k s' r' w' k' t x) ⊢ X := by
  rw [St_swap]; exact h

/-- The END of the kernel. -/
theorem st_end {Q : PUnit → sProp 𝕄} :
    iprop(((((Finish m c ∗ xBuf m c ∗ ∃ W, owes (c : Thread nD τ) 0 W) -∗ Q ⟨⟩) ∗ xBuf m c ∗ Spares c) ∗ atPos ER (barCell c) (0 + 1) ∅ 0)
        ∗ St m K c false 15 15 15 17 15 15 15 17 17 17)
      ⊢ wp frame (wpE (defs₀ (F := F)) 𝒱₀ (c : Thread nD τ) none) Set.univ (.ret ⟨⟩ : Prog (TpuEff nD τ sig (Elt F) Λ₀ .tc) PUnit) Q := by
  unfold St
  iintro ⟨⟨⟨HQ, Hx, HS⟩, HB⟩, #HK, -, H1, H2, HC, ⟨%W, Ho⟩⟩
  imod (spares_end m K c) $$ [HS] with HS
  · isplitr; · iexact HK
    iexact HS
  imod (bar_end m K c) $$ [HB] with HB
  · isplitr; · iexact HK
    iexact HB
  rw [wp_ret]; imodintro
  iapply HQ
  isplitl [H1 H2 HC HB HS]
  · iapply (finish_close m c)
    isplitl [H1]; · iexact H1
    isplitl [H2]; · iexact H2
    isplitl [HC]; · iexact HC
    isplitl [HB]; · iexact HB
    iexact HS
  isplitl [Hx]; · iexact Hx
  iexists W
  rw [show (0 : CellTallies nD τ sig Unit) = OD false c 15 + OD (!false) c 15 by rw [OD_done, OD_done, add_zero]]
  iexact Ho

end Rules

end Cert.Gather

end
-- ==== Proof.Body.lean ====
/-
# 01_k — the kernel, executed

The kernel's operations in program order, each by its rule. Six rounds relay a half block each way twice and copy the two
blocks that have come in; an uneven last round follows, and then the waits for every send and copy.
-/
module

public import proofs.«01_k».proof.Proof.Opening

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The offsets, by the number of the transfer or copy -/

theorem off3_at (c : Dev nD) (n : ℕ) (hn : n < 17) {a b : BitVec 32} (h : k0_off3_at ⟨n, hn⟩ = (a, b)) : k0_off3 c a b = ![256 * half false n c, 0] := by
  rw [← off3_eq c ⟨n, hn⟩, h]
theorem off4_at (c : Dev nD) (n : ℕ) (hn : n < 17) {a b : BitVec 32} (h : k0_off4_at ⟨n, hn⟩ = (a, b)) : k0_off4 c a b = ![256 * half true n c, 0] := by
  rw [← off4_eq c ⟨n, hn⟩, h]
theorem off5_at (c : Dev nD) (k : ℕ) (hk : k / 2 < 7) (h2 : 2 * (k / 2) + 1 = k) {a : BitVec 32} (h : BitVec.ofNat 32 (1 + k / 2) = a) :
    k0_off5 c a = ![512 * copyBlk k c, 0] := by
  rw [← h]; exact (off5_eq c ⟨k / 2, hk⟩).trans (by show ![512 * copyBlk (2 * (k / 2) + 1) c, 0] = _; rw [h2])
theorem off6_at (c : Dev nD) (k : ℕ) (hk : (k - 2) / 2 < 7) (h2 : 2 * ((k - 2) / 2) + 2 = k) {a : BitVec 32} (h : BitVec.ofNat 32 (1 + (k - 2) / 2) = a) :
    k0_off6 c a = ![512 * copyBlk k c, 0] := by
  rw [← h]; exact (off6_eq c ⟨(k - 2) / 2, hk⟩).trans (by show ![512 * copyBlk (2 * ((k - 2) / 2) + 2) c, 0] = _; rw [h2])

/-! ## The execution -/

set_option maxRecDepth 100000 in
set_option maxHeartbeats 4000000 in
theorem sound_body (K : Dev nD × Option Role → ℕ) (c : Dev nD) (fg fo : Arr F) (W : Waits sig Unit) (Q : PUnit → sProp 𝕄) :
    iprop((((Finish m c ∗ xBuf m c ∗ ∃ W, owes (c : Thread nD τ) 0 W) -∗ Q ⟨⟩) ∗ Rec m K ∗ levAts L lv ∗ Start c ∗ vBuf c fo ∗ owes (c : Thread nD τ) (O₀ c) W)
        ∗ xBuf m c ∗ gBuf c fg)
      ⊢ wp frame (wpE (defs₀ (F := F)) 𝒱₀ (c : Thread nD τ) none) Set.univ
          (cc0_body (Memref.whole cc0_stg0_0) (Memref.isWhole_whole _) (Memref.whole main_v1) (Memref.isWhole_whole _)
            (Memref.whole cc0_scratch0) (Memref.isWhole_whole _) cc0_scratch1 cc0_scratch2 cc0_scratch3 cc0_scratch4 cc0_scratch5) Q := by
  simp only [cc0_body_eq_skeleton, cc0_body_skel,
    k0_part1_eq_skeleton, k0_part1_skel, k0_part2_eq_skeleton, k0_part2_skel, k0_part3_eq_skeleton, k0_part3_skel,
    k0_part4_eq_skeleton, k0_part4_skel, k0_part5_eq_skeleton, k0_part5_skel, k0_part6_eq_skeleton, k0_part6_skel,
    k0_part7_eq_skeleton, k0_part7_skel, k0_part8_eq_skeleton, k0_part8_skel, k0_part9_eq_skeleton, k0_part9_skel,
    k0_part10_eq_skeleton, k0_part10_skel, k0_part11_eq_skeleton, k0_part11_skel, k0_part12_eq_skeleton, k0_part12_skel,
    k0_part13_eq_skeleton, k0_part13_skel, k0_part14_eq_skeleton, k0_part14_skel, k0_part15_eq_skeleton, k0_part15_skel,
    k0_part16_eq_skeleton, k0_part16_skel, k0_part17_eq_skeleton, k0_part17_skel, k0_part18_eq_skeleton, k0_part18_skel,
    k0_part19_eq_skeleton, k0_part19_skel, k0_part20_eq_skeleton, k0_part20_skel, k0_part21_eq_skeleton, k0_part21_skel,
    k0_part22_eq_skeleton, k0_part22_skel, k0_part23_eq_skeleton, k0_part23_skel, k0_part24_eq_skeleton, k0_part24_skel,
    k0_part25_eq_skeleton, k0_part25_skel, k0_part26_eq_skeleton, k0_part26_skel, k0_part27_eq_skeleton, k0_part27_skel,
    k0_part28_eq_skeleton, k0_part28_skel, k0_part29_eq_skeleton, k0_part29_skel, k0_part30_eq_skeleton, k0_part30_skel,
    k0_part31_eq_skeleton, k0_part31_skel, k0_part32_eq_skeleton, k0_part32_skel, k0_part33_eq_skeleton, k0_part33_skel,
    k0_part34_eq_skeleton, k0_part34_skel, k0_part35_eq_skeleton, k0_part35_skel, k0_part36_eq_skeleton, k0_part36_skel,
    k0_part37_eq_skeleton, k0_part37_skel, k0_part38_eq_skeleton, k0_part38_skel, k0_part39_eq_skeleton, k0_part39_skel,
    k0_part40_eq_skeleton, k0_part40_skel, k0_part41_eq_skeleton, k0_part41_skel, k0_part42_eq_skeleton, k0_part42_skel,
    k0_part43_eq_skeleton, k0_part43_skel, k0_part44_eq_skeleton, k0_part44_skel, k0_part45_eq_skeleton, k0_part45_skel,
    k0_part46_eq_skeleton, k0_part46_skel, k0_part47_eq_skeleton, k0_part47_skel, k0_part48_eq_skeleton, k0_part48_skel,
    k0_part49_eq_skeleton, k0_part49_skel, k0_part50_eq_skeleton, k0_part50_skel, k0_part51_eq_skeleton, k0_part51_skel,
    k0_part52_eq_skeleton, k0_part52_skel, k0_part53_eq_skeleton, k0_part53_skel, k0_part54_eq_skeleton, k0_part54_skel,
    k0_part55_eq_skeleton, k0_part55_skel, k0_part56_eq_skeleton, k0_part56_skel, k0_part57_eq_skeleton, k0_part57_skel,
    k0_part58_eq_skeleton, k0_part58_skel, k0_part59_eq_skeleton, k0_part59_skel,
    semSignalWord, semWaitWord, Prog.lift, Prog.bind_op, Prog.bind_ret, Prog.pure_eq_ret, wp_deviceId]
  -- the own block, its copy, the barrier
  refine st_fill m c fg ((off1_eq c 0).trans (congrArg (fun u => ![256 * u, 0]) (half_own 0 (by decide)))) ((off1_eq c 1).trans (congrArg (fun u => ![256 * u, 0]) (half_own 1 (by decide)))) fun f h0 h1 => ?_
  refine (ready_open m K c f fo h0 h1).trans ?_
  refine st_first m K c (set_copy_block c 0 (by decide) (off2_eq c) _) (by decide) (by unfold NC; rw [if_pos (by decide)]; rfl) ?_
  refine st_meet m K c (dev1_eq c) (dev2_eq c) ?_
  -- the own half blocks, both ways
  iterate 2
    refine st_send m K c (d := false) (by decide) (by decide) (by decide) (by exact dev2_eq c) (by exact off3_at c _ (by decide) rfl) (by decide) (by decide) ?_
    refine st_turn m K c false ?_
    refine st_send m K c (d := true) (by decide) (by decide) (by decide) (by exact dev1_eq c) (by exact off4_at c _ (by decide) rfl) (by decide) (by decide) ?_
    refine st_turn m K c true ?_
  -- six rounds
  iterate 6
    iterate 2
      refine st_recv m K c (d := false) (by decide) (by decide) (by decide) (by decide) (by decide) (by decide) (by unfold NX; rfl) ?_
      refine st_send m K c (d := false) (by decide) (by decide) (by decide) (by exact dev2_eq c) (by exact off3_at c _ (by decide) rfl) (by decide) (by decide) ?_
      refine st_turn m K c false ?_
      refine st_recv m K c (d := true) (by decide) (by decide) (by decide) (by decide) (by decide) (by decide) (by unfold NX; rfl) ?_
      refine st_send m K c (d := true) (by decide) (by decide) (by decide) (by exact dev1_eq c) (by exact off4_at c _ (by decide) rfl) (by decide) (by decide) ?_
      refine st_turn m K c true ?_
    refine st_copy m K c (d := false) (by decide) (by decide) (kept_block m c false (by decide) (by decide) (by decide) (by decide))
      (set_copy_block c _ (by decide) (by exact off5_at c _ (by decide) (by decide) (by decide)) _) (by decide) (by unfold NC; rw [if_pos (by decide)]; rfl) ?_
    refine st_turn m K c false ?_
    refine st_copy m K c (d := true) (by decide) (by decide) (kept_block m c true (by decide) (by decide) (by decide) (by decide))
      (set_copy_block c _ (by decide) (by exact off6_at c _ (by decide) (by decide) (by decide)) _) (by decide) (by unfold NC; rw [if_pos (by decide)]; rfl) ?_
    refine st_turn m K c true ?_
  -- the last round
  refine st_recv m K c (d := false) (by decide) (by decide) (by decide) (by decide) (by decide) (by decide) (by unfold NX; rfl) ?_
  refine st_send m K c (d := false) (by decide) (by decide) (by decide) (by exact dev2_eq c) (by exact off3_at c _ (by decide) rfl) (by decide) (by decide) ?_
  refine st_turn m K c false ?_
  refine st_recv m K c (d := true) (by decide) (by decide) (by decide) (by decide) (by decide) (by decide) (by unfold NX; rfl) ?_
  refine st_send m K c (d := true) (by decide) (by decide) (by decide) (by exact dev1_eq c) (by exact off4_at c _ (by decide) rfl) (by decide) (by decide) ?_
  refine st_turn m K c true ?_
  refine st_recv m K c (d := false) (by decide) (by decide) (by decide) (by decide) (by decide) (by decide) (by unfold NX; rfl) ?_
  refine st_copy m K c (d := false) (by decide) (by decide) (kept_block m c false (by decide) (by decide) (by decide) (by decide))
    (set_copy_block c _ (by decide) (by exact off5_at c _ (by decide) (by decide) (by decide)) _) (by decide) (by unfold NC; rw [if_pos (by decide)]; rfl) ?_
  refine st_turn m K c false ?_
  refine st_recv m K c (d := true) (by decide) (by decide) (by decide) (by decide) (by decide) (by decide) (by unfold NX; rfl) ?_
  refine st_copy m K c (d := true) (by decide) (by decide) (kept_block m c true (by decide) (by decide) (by decide) (by decide))
    (set_copy_block c _ (by decide) (by exact off6_at c _ (by decide) (by decide) (by decide)) _) (by decide) (by unfold NC; rw [if_pos (by decide)]; rfl) ?_
  refine st_turn m K c true ?_
  refine st_recv m K c (d := false) (by decide) (by decide) (by decide) (by decide) (by decide) (by decide) (by unfold NX; rfl) ?_
  refine st_copy m K c (d := false) (by decide) (by decide) (kept_half m c false (by decide) (by decide) (by decide) (by decide))
    (set_copy_half (d := false) c _ (by decide) (by decide) (by exact off3_at c _ (by decide) rfl) _) (by decide) (by unfold NC; rw [if_neg (by decide)]; rfl) ?_
  refine st_turn m K c false ?_
  refine st_recv m K c (d := true) (by decide) (by decide) (by decide) (by decide) (by decide) (by decide) (by unfold NX; rfl) ?_
  refine st_copy m K c (d := true) (by decide) (by decide) (kept_half m c true (by decide) (by decide) (by decide) (by decide))
    (set_copy_half (d := true) c _ (by decide) (by decide) (by exact off4_at c _ (by decide) rfl) _) (by decide) (by unfold NC; rw [if_neg (by decide)]; rfl) ?_
  refine st_turn m K c true ?_
  -- the sends complete, and the copies
  iterate 15
    refine st_sent m K c (d := false) (by decide) (by decide) (by decide) (by decide) (by decide) (by unfold NX; rfl) ?_
    refine st_turn m K c false ?_
    refine st_sent m K c (d := true) (by decide) (by decide) (by decide) (by decide) (by decide) (by unfold NX; rfl) ?_
    refine st_turn m K c true ?_
  iterate 15
    refine st_copied m K c (d := false) (by decide) (by decide) (by decide) (by decide) (by decide) (by unfold NC; rw [if_pos (by decide)]) ?_
  iterate 2
    refine st_copied m K c (d := false) (by decide) (by decide) (by decide) (by decide) (by decide) (by unfold NC; rw [if_neg (by decide)]) ?_
  exact st_end m K c

end Cert.Gather

end
-- ==== Proof.Deal.lean ====
/-
# 01_k — the launch: what is dealt to each device

The rounds of all cells are funded together, and every duty token is minted with the cell it belongs to. The tokens are
then dealt around the ring: the two of a barrier go to the two neighbours, and the token of an arrival goes to the
device that will send. The credit that all devices owe to the cells of one device goes to that device.
-/
module

public import proofs.«01_k».proof.Proof.Ends
public import proofs.«01_k».proof.Proof.Gen.KernelIdeal.Launch
public import Idealize.ShloMosaic.Lib.Pipeline.Launch

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The credit -/

/-- A receive cell by its role. -/
theorem recv_kcell (d : Bool) (n : Fin 15) (c : Dev nD) : xferCell true d n.val c = kcell (c, some (recvRole d n)) := rfl
theorem bar_kcell (c : Dev nD) : barCell c = kcell (c, none) := rfl

/-- What device `c` owes an arrival of device `c'`, direction by direction. -/
theorem OD_recv (d d' : Bool) (n : Fin 15) (c c' : Dev nD) :
    OD d' c 0 (xferCell true d n.val c') () = if d' = d ∧ c = nb (!d) c' then NX else 0 := by
  unfold OD
  rw [Finset.sum_apply, Finsupp.finsetSum_apply]
  have key : ∀ k ∈ Finset.Ico 0 15, (tallyAt (nD := nD) (τ := τ) (sig := sig) (xferCell true d' k (nb d' c)) () NX (xferCell true d n.val c') ())
      = if k = n.val then (if d' = d ∧ c = nb (!d) c' then NX else 0) else 0 := by
    intro k hk
    have hk' := (Finset.mem_Ico.mp hk).2
    rw [tallyAt_apply, ← ite_and]
    refine if_congr ?_ rfl rfl
    constructor
    · rintro ⟨h, -⟩
      have h' := kcell_injective (a₁ := (c', some (recvRole d n))) (a₂ := (nb d' c, some (recvRole d' ⟨k, hk'⟩))) h
      have h1 : c' = nb d' c := congrArg Prod.fst h'
      have h2 : (recvRole d n) = recvRole d' ⟨k, hk'⟩ := Option.some.inj (congrArg Prod.snd h')
      have h3 : (true, d, n) = (true, d', (⟨k, hk'⟩ : Fin 15)) := Sum.inl.inj h2
      have h4 : d = d' := congrArg (fun x : Bool × Bool × Fin 15 => x.2.1) h3
      have h5 : n.val = k := congrArg (fun x : Bool × Bool × Fin 15 => x.2.2.val) h3
      subst h4
      exact ⟨h5.symm, rfl, by rw [h1, nb_nb]⟩
    · rintro ⟨rfl, rfl, rfl⟩
      exact ⟨by rw [nb_nb'], rfl⟩
  rw [Finset.sum_congr rfl key, Finset.sum_ite_eq' (Finset.Ico 0 15) n.val, if_pos (Finset.mem_Ico.mpr ⟨Nat.zero_le _, n.isLt⟩)]

theorem OD_bar (d : Bool) (c c' : Dev nD) : OD d c 0 (barCell c') () = 0 := by
  by_contra h
  obtain ⟨n, -, hg⟩ := OD_pos (Nat.pos_of_ne_zero h)
  have := kcell_injective (a₁ := (c', none)) (a₂ := (nb d c, some (recvRole d n))) hg
  exact absurd (congrArg Prod.snd this) (by simp)

theorem O₀_apply (c : Dev nD) (g : GSem nD τ sig) : O₀ c g ()
    = OD false c 0 g () + OD true c 0 g () + tallyAt (barCell (nb false c)) () 1 g () + tallyAt (barCell (nb true c)) () 1 g () := rfl

theorem tally_recv (d : Bool) (n : Fin 15) (c c' : Dev nD) : tallyAt (nD := nD) (τ := τ) (sig := sig) (barCell c) () 1 (xferCell true d n.val c') () = 0 := by
  rw [tallyAt_apply, if_neg]
  rintro ⟨h, -⟩
  have := kcell_injective (a₁ := (c', some (recvRole d n))) (a₂ := (c, none)) h
  exact absurd (congrArg Prod.snd this) (by simp)

theorem tally_bar (d : Bool) (c c' : Dev nD) :
    tallyAt (nD := nD) (τ := τ) (sig := sig) (barCell (nb d c)) () 1 (barCell c') () = if c = nb (!d) c' then 1 else 0 := by
  rw [tallyAt_apply]
  refine if_congr ?_ rfl rfl
  constructor
  · rintro ⟨h, -⟩
    have h' : c' = nb d c := congrArg Prod.fst (kcell_injective (a₁ := (c', none)) (a₂ := (nb d c, none)) h)
    rw [h', nb_nb]
  · rintro rfl
    exact ⟨by rw [nb_nb'], rfl⟩

/-- One device owes an arrival, -/
theorem owed_recv (d : Bool) (n : Fin 15) (c c' : Dev nD) : O₀ c (xferCell true d n.val c') () = if c = nb (!d) c' then NX else 0 := by
  rw [O₀_apply, OD_recv, OD_recv, tally_recv, tally_recv]
  cases d <;> simp

/-- and two owe a barrier. -/
theorem owed_bar (c c' : Dev nD) : O₀ c (barCell c') () = (if c = nb true c' then 1 else 0) + if c = nb false c' then 1 else 0 := by
  rw [O₀_apply, OD_bar, OD_bar, tally_bar, tally_bar]; simp

theorem dealt_recv (d : Bool) (n : Fin 15) (c : Dev nD) :
    tallyOn (xferCell true d n.val c) (launchCredit (Pipeline.owing O₀) 0 (xferCell true d n.val c))
      = (tallyAt (xferCell true d n.val c) () NX : CellTallies nD τ sig Unit) := by
  unfold tallyAt
  refine congrArg _ (Finsupp.ext fun u => ?_)
  cases u
  rw [Pipeline.launchCredit_owing, Finsupp.single_eq_same, Finset.sum_congr rfl fun e _ => owed_recv d n e c,
    Finset.sum_ite_eq' Finset.univ (nb (!d) c) fun _ => NX, if_pos (Finset.mem_univ _)]

theorem dealt_bar (c : Dev nD) :
    tallyOn (barCell c) (launchCredit (Pipeline.owing O₀) 0 (barCell c)) = (tallyAt (barCell c) () 2 : CellTallies nD τ sig Unit) := by
  unfold tallyAt
  refine congrArg _ (Finsupp.ext fun u => ?_)
  cases u
  rw [Pipeline.launchCredit_owing, Finsupp.single_eq_same, Finset.sum_congr rfl fun e _ => owed_bar e c, Finset.sum_add_distrib,
    Finset.sum_ite_eq' Finset.univ (nb true c) fun _ => 1, Finset.sum_ite_eq' Finset.univ (nb false c) fun _ => 1,
    if_pos (Finset.mem_univ _), if_pos (Finset.mem_univ _)]

/-- The credit dealt at the launch is what the device waits for. -/
theorem credits_dealt (c : Dev nD) : (Pipeline.launchCred O₀ c : sProp 𝕄) ⊢ credits c := by
  let Z : GSem nD τ sig → sProp 𝕄 := fun g => cred (tallyOn g (launchCredit (Pipeline.owing O₀) 0 g))
  have h : (Pipeline.launchCred O₀ c : sProp 𝕄) ⊢ bigSep (Finset.univ.map ⟨csem, csem_inj⟩) fun sm => Z ((c : Thread nD τ), sm) :=
    bigSep_subset (Finset.subset_univ _)
  have hr (d : Bool) : bigSep (Finset.range 15) (fun n => Z (xferCell true d n c)) = bigSep (Finset.range 15) fun n => (cred (tallyAt (xferCell true d n c) () NX) : sProp 𝕄) :=
    bigSep_congr fun n hn => congrArg cred (dealt_recv d ⟨n, Finset.mem_range.mp hn⟩ c)
  have hb : Z (barCell c) = cred (tallyAt (barCell c) () 2) := congrArg cred (dealt_bar c)
  refine h.trans ?_
  rw [bigSep_map]
  show bigSep Finset.univ (fun k : Option Role => Z (kcell (c, k))) ⊢ credits c
  unfold credits
  rw [bigSep_option, roles_split (fun k => Z (kcell (c, some k))) (fun r d n => Z (xferCell r d n c)) (fun i => Z (copyCell i c)) (fun _ _ _ => rfl) (fun _ => rfl),
    hr, hr, bigSep_two, ← hb]
  iintro ⟨HB, ⟨-, H1, H2⟩, -⟩
  isplitl [HB]; · iexact HB
  isplitl [H1]; · iexact H1
  iexact H2

/-! ## The cells and the tokens -/

def ringCells : Finset (GSem nD τ sig) := Finset.univ.map ⟨kcell, kcell_injective⟩

/-- The tokens of a device's cells: one for each, and a second one for the barrier. -/
def tokOf (x : Dev nD × (Unit ⊕ Option Role)) : GSem nD τ sig × ℕ × Bool := match x.2 with
  | .inl _ => (barCell x.1, 0, true)
  | .inr k => (kcell (x.1, k), 0, false)

theorem tokOf_injective : Function.Injective tokOf := by
  rintro ⟨c, j⟩ ⟨c', j'⟩ h
  have hg : (tokOf (c, j)).1 = (tokOf (c', j')).1 := congrArg Prod.fst h
  have hb : (tokOf (c, j)).2.2 = (tokOf (c', j')).2.2 := congrArg (fun x : GSem nD τ sig × ℕ × Bool => x.2.2) h
  rcases j with ⟨⟩ | k <;> rcases j' with ⟨⟩ | k'
  · have : c = c' := congrArg Prod.fst (kcell_injective (a₁ := (c, none)) (a₂ := (c', none)) hg)
    rw [this]
  · exact absurd hb (by simp [tokOf])
  · exact absurd hb (by simp [tokOf])
  · have := kcell_injective (a₁ := (c, k)) (a₂ := (c', k')) hg
    have h1 : c = c' := congrArg Prod.fst this
    have h2 : k = k' := congrArg Prod.snd this
    rw [h1, h2]

def ringToks : Finset (GSem nD τ sig × ℕ × Bool) := Finset.univ.map ⟨tokOf, tokOf_injective⟩

def toks (c : Dev nD) : sProp 𝕄 :=
  iprop(dutyTok ER (barCell c) 0 true ∗ bigSep Finset.univ fun k : Option Role => dutyTok ER (kcell (c, k)) 0 false)

/-- What the launch deals device `c`, -/
def G (c : Dev nD) : sProp 𝕄 :=
  iprop((bigSep Finset.univ fun k : Option Role => roundState ER (Rd m) (kcell (c, k)) 0)
    ∗ (bigSep Finset.univ fun k : Option Role => atPos ER (kcell (c, k)) 0 ∅ 0)
    ∗ (bigSep Finset.univ fun k : Option Role => reached ER (kcell (c, k)) 0) ∗ toks c)

/-- and what that has become once every cell is opened. -/
def G' (c : Dev nD) : sProp 𝕄 :=
  iprop(∃ K, Rec m K ∗ (bigSep Finset.univ fun k : Option Role => atPos ER (kcell (c, k)) 0 ∅ 0) ∗ payToks c)

theorem fund_ring : BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun k : Option Role => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks
    rw [bigSep_map, bigSep_univ_prod]
    refine bigSep_congr fun c _ => ?_
    rw [bigSep_univ_sum, bigSep_univ_of_subsingleton ()]
    rfl
  have hG : bigSep Finset.univ (G m)
      = iprop((bigSep ringCells fun g => roundState ER (Rd m) g 0) ∗ (bigSep ringCells fun g => atPos ER g 0 ∅ 0)
          ∗ (bigSep ringCells fun g => reached ER g 0) ∗ bigSep ringToks fun x => dutyTok ER x.1 x.2.1 x.2.2) := by
    rw [hX, hX, hX, hT]; unfold G; rw [bigSep_sep', bigSep_sep', bigSep_sep']
  rw [hG]
  iintro HX
  imod (Rounds.fund ER (Rd m) ringCells ringToks) $$ HX with ⟨Hst, Hr, Hat, Htok⟩
  imodintro
  isplitl [Hst]; · iexact Hst
  isplitl [Hat]; · iexact Hat
  isplitl [Hr]; · iexact Hr
  iexact Htok

/-! ## Around the ring -/

theorem around (d : Bool) (Φ : Dev nD → sProp 𝕄) : bigSep Finset.univ Φ = bigSep Finset.univ fun c => Φ (nb d c) :=
  bigSep_univ_equiv (turn d) Φ

theorem toks_around : (bigSep Finset.univ fun c : Dev nD => (toks c : sProp 𝕄)) ⊢ bigSep Finset.univ fun c : Dev nD => payToks c := by
  have ho (c : Dev nD) : (toks c : sProp 𝕄) = iprop(dutyTok ER (barCell c) 0 true ∗ dutyTok ER (barCell c) 0 false
      ∗ (((bigSep (Finset.range 15) fun n => dutyTok ER (xferCell false false n c) 0 false) ∗ bigSep (Finset.range 15) fun n => dutyTok ER (xferCell false true n c) 0 false)
            ∗ (bigSep (Finset.range 15) fun n => dutyTok ER (xferCell true false n c) 0 false) ∗ bigSep (Finset.range 15) fun n => dutyTok ER (xferCell true true n c) 0 false)
          ∗ (bigSep (Finset.range 17) fun i => dutyTok ER (copyCell i c) 0 false)
          ∗ bigSep Finset.univ fun j : Fin 4 => dutyTok ER (kcell (c, some (.inr (.inr j)))) 0 false) := by
    unfold toks
    rw [bigSep_option, roles_split (fun k => (dutyTok ER (kcell (c, some k)) 0 false : sProp 𝕄)) (fun r d n => dutyTok ER (xferCell r d n c) 0 false)
      (fun i => dutyTok ER (copyCell i c) 0 false) (fun _ _ _ => rfl) (fun _ => rfl)]
    rfl
  have hp (c : Dev nD) : (payToks c : sProp 𝕄) = iprop(dutyTok ER (barCell (nb true c)) 0 false ∗ dutyTok ER (barCell (nb false c)) 0 true
      ∗ (((bigSep (Finset.range 15) fun n => dutyTok ER (xferCell false false n c) 0 false)
            ∗ bigSep (Finset.range 15) fun n => dutyTok ER (xferCell true false n (nb false c)) 0 false)
          ∗ (bigSep (Finset.range 15) fun n => dutyTok ER (xferCell false true n c) 0 false)
            ∗ bigSep (Finset.range 15) fun n => dutyTok ER (xferCell true true n (nb true c)) 0 false)
      ∗ bigSep (Finset.range 17) fun i => dutyTok ER (copyCell i c) 0 false) := by
    unfold payToks; rw [bigSep_two, bigSep_sep', bigSep_sep']
  rw [bigSep_congr fun c _ => ho c, bigSep_congr fun c _ => hp c]
  simp only [bigSep_sep' (M := 𝕄) (I := Dev nD)]
  rw [around true fun c => (dutyTok ER (barCell c) 0 false : sProp 𝕄), around false fun c => (dutyTok ER (barCell c) 0 true : sProp 𝕄),
    around false fun c => bigSep (Finset.range 15) fun n => (dutyTok ER (xferCell true false n c) 0 false : sProp 𝕄),
    around true fun c => bigSep (Finset.range 15) fun n => (dutyTok ER (xferCell true true n c) 0 false : sProp 𝕄)]
  iintro ⟨Hb1, Hb2, ⟨⟨Hs1, Hs2⟩, Hr1, Hr2⟩, HC, -⟩
  isplitl [Hb2]; · iexact Hb2
  isplitl [Hb1]; · iexact Hb1
  isplitr [HC]
  · isplitl [Hs1 Hr1]
    · isplitl [Hs1]; · iexact Hs1
      iexact Hr1
    isplitl [Hs2]; · iexact Hs2
    iexact Hr2
  iexact HC

/-! ## Opening every cell -/

theorem ownSemFacts : Pipeline.OwnSemFacts cfg0.spec osem where
  isScoped := by decide +kernel
  inj := osem_inj
  disj k w s := by
    have h : SemLoc.dma ((cfg0.spec w).sem s) = .dma (0 : DmaSem sig) := by fin_cases w; fin_cases s; rfl
    rw [h]; exact csem_ne_stage (some k)

/-- The barrier semaphore is the one semaphore a device has beyond the kernel's own. -/
theorem unscoped_bar (c : Dev nD) : (unscopedSems0 c : sProp 𝕄) = semVal (barCell c) 0 := by
  unfold unscopedSems0; rw [bigSep_eq_bigSepL_of_eq [SemLoc.reg barS] (by decide +kernel) (by decide)]; rfl

theorem sems_all (c : Dev nD) :
    (bigSep Finset.univ fun k : Option Role => (semVal (kcell (c, k)) 0 : sProp 𝕄))
      = iprop(unscopedSems0 c ∗ Pipeline.ownSems0 (Ix := Unit) (Name := ℕ) (U := UU) (Lvl := ℕ) (Val := Elt F) (τ := τ) osem c) := by
  rw [bigSep_option, unscoped_bar]; rfl

theorem core_open (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Option Role => iprop(∃ κ : ℕ, cellInv ER (Rd m) κ (kcell (c, k))))
          ∗ (bigSep Finset.univ fun k : Option Role => atPos ER (kcell (c, k)) 0 ∅ 0)
          ∗ (bigSep Finset.univ fun k : Option Role => reached ER (kcell (c, k)) 0) ∗ toks c) := by
  have ha : iprop((bigSep Finset.univ fun k : Option Role => semVal (kcell (c, k)) 0) ∗ bigSep Finset.univ fun k : Option Role => roundState ER (Rd m) (kcell (c, k)) 0)
      ⊢ (|={Set.univ}=> bigSep Finset.univ fun k : Option Role => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  rw [sems_all] at ha
  unfold G
  iintro ⟨Hos, Hus, Hst, Hat, Hr, Htok⟩
  imod ha $$ [Hos Hus Hst] with Hinv
  · isplitl [Hos Hus]
    · isplitl [Hus]; · iexact Hus
      iexact Hos
    iexact Hst
  imodintro
  isplitl [Hinv]; · iexact Hinv
  isplitl [Hat]; · iexact Hat
  isplitl [Hr]; · iexact Hr
  iexact Htok

/-- Every cell's invariant is known to every device. -/
theorem share_out :
    (bigSep Finset.univ fun c : Dev nD => iprop((bigSep Finset.univ fun k : Option Role => iprop(∃ κ : ℕ, cellInv ER (Rd m) κ (kcell (c, k))))
          ∗ (bigSep Finset.univ fun k : Option Role => atPos ER (kcell (c, k)) 0 ∅ 0)
          ∗ (bigSep Finset.univ fun k : Option Role => reached ER (kcell (c, k)) 0) ∗ toks c) : sProp 𝕄)
      ⊢ bigSep Finset.univ (G' m) := by
  have hg (K : Dev nD × Option Role → ℕ) :
      iprop(Rec m K ∗ (bigSep Finset.univ fun c : Dev nD => bigSep Finset.univ fun k : Option Role => atPos ER (kcell (c, k)) 0 ∅ 0)
          ∗ bigSep Finset.univ fun c : Dev nD => payToks c) ⊢ bigSep Finset.univ (G' m) := by
    rw [← bigSep_sep']
    refine BIBase.Entails.trans (sep_mono_left (BI.bigSep_of_persistent (Finset.univ : Finset (Dev nD)) (Rec m K))) ?_
    rw [← bigSep_sep']
    have e (c : Dev nD) : iprop(Rec m K ∗ (bigSep Finset.univ fun k : Option Role => atPos ER (kcell (c, k)) 0 ∅ 0) ∗ payToks c) ⊢ G' m c := by
      unfold G'
      iintro H
      iexists K
      iexact H
    exact bigSep_mono fun c _ => e c
  rw [bigSep_sep', bigSep_sep', bigSep_sep', ← bigSep_univ_prod (fun ck : Dev nD × Option Role => iprop(∃ κ : ℕ, cellInv ER (Rd m) κ (kcell ck))),
    ← bigSep_univ_prod (fun ck : Dev nD × Option Role => (reached ER (kcell ck) 0 : sProp 𝕄))]
  iintro ⟨HI, Hat, HR, Htok⟩
  ihave HK := (BI.bigSep_exists_pi Finset.univ (fun (ck : Dev nD × Option Role) (κ : ℕ) => (cellInv ER (Rd m) κ (kcell ck) : sProp 𝕄))) $$ HI
  icases HK with ⟨%K, HI⟩
  ihave Htk := (toks_around (F := F)) $$ Htok
  iapply (hg K)
  isplitl [HI HR]
  · unfold Rec
    isplitl [HI]; · iexact HI
    iexact HR
  isplitl [Hat]; · iexact Hat
  iexact Htk

theorem open_all :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => core_open m c).trans (bigSep_fupd _ _)).trans (BI.fupd_mono (share_out m))

end Cert.Gather

end
-- ==== Proof.Run.lean ====
/-
# 01_k — the run

The whole program on the sixteen devices: it ends, with every semaphore at zero, every argument unchanged and every
result array equal to the gathered one.
-/
module

public import proofs.«01_k».proof.Proof.Body
public import proofs.«01_k».proof.Proof.Deal
public import Idealize.ShloMosaic.Lib.Pipeline.CollectiveSegs

@[expose] public section

noncomputable section

namespace Cert.Gather

open Cert.KernelIdeal Cert.KernelIdeal.Gen
open Idealize.ShloMosaic Idealize.ShloMosaic.TcCoe
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Before and after the kernel's one point -/

/-- What device `c` has before it is given its buffers. -/
def start (c : Dev nD) : sProp 𝕄 := iprop(G' m c ∗ credits c ∗ levAts L lv ∗ ∃ fo : Arr F, vBuf c fo)

def before (c : Dev nD) : sProp 𝕄 := iprop(start m c ∗ ∃ f : Arr F, gBuf c f)

/-- The staged block as the fetch leaves it. -/
def staged (c : Dev nD) : S512x512.Idx → Elt F .bf16 :=
  (win0_0.blk (0 : Fin 1)).view.read (Elt F) (m ((c : Thread nD τ).loc main_arg0))

theorem staged_eq (c : Dev nD) : staged m c = m ((c : Thread nD τ).loc main_arg0) := by
  funext i
  refine congrArg (m ((c : Thread nD τ).loc main_arg0)) (funext fun a => Fin.ext ?_)
  show (0 * S512x512.size a + 1 * (i a).val) = (i a).val
  omega

/-- The pipeline's data: one window, fetched once, unchanged by the body. -/
def dats (_ : Fin 1) (c : Dev nD) : Dat τ (Elt F) Unit ℕ UU ℕ cfg0 c where
  A w := m ((cfg0.win w).arr.view.loc (c : Thread nD τ))
  after w _ := match w with
    | ⟨0, _⟩ => staged m c
  Φ t := match t with
    | ⟨0, _⟩ => before m c
    | ⟨_ + 1, _⟩ => Finish m c
  q _ := fullShare
  owed t := match t with
    | ⟨0, _⟩ => O₀ c
    | ⟨_ + 1, _⟩ => 0

theorem share_full (c : Dev nD) (w : Fin cfg0.W) : (dats m 0 c).share w = fullShare := by unfold Dat.share; split <;> rfl

theorem fetched_first (t : Fin cfg0.N) : (cfg0.win (0 : Fin 1)).fetch t = true := by rw [fin_N0 t]; rfl

theorem before_eq (c : Dev nD) (d : S512x512.Idx → Elt F .bf16) :
    (dats m 0 c).before (0 : Fin 1) t0_0 d = m ((c : Thread nD τ).loc main_arg0) := by
  unfold Dat.before; rw [if_pos (fetched_first t0_0)]; exact staged_eq m c

/-- Owning a whole buffer. -/
theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The staging buffer at contents `X`. -/
def stage (c : Dev nD) (X : S512x512.Idx → Elt F .bf16) : sProp 𝕄 :=
  iprop(∃ f : Buf (Elt F) ((c : Thread nD τ).loc cc0_stg0_0), ⌜f = X⌝ ∗ (((c : Thread nD τ).loc cc0_stg0_0) ↦{fullShare} f))

def pre (c : Dev nD) : sProp 𝕄 :=
  iprop(before m c ∗ (dats m 0 c).owesAt () t0_0.castSucc ∗ ∃ d, stage c ((dats m 0 c).before (0 : Fin 1) t0_0 d))
def post (c : Dev nD) : sProp 𝕄 :=
  iprop(Finish m c ∗ (dats m 0 c).owesAt () t0_0.succ ∗ stage c (staged m c))

theorem kernel_runs (c : Dev nD) :
    pre m c ⊢ wp frame (wpE (defs₀ (F := F)) 𝒱₀ (c : Thread nD τ) none) Set.univ
      (cc0_body (Memref.whole cc0_stg0_0) (Memref.isWhole_whole _) (Memref.whole main_v1) (Memref.isWhole_whole _)
        (Memref.whole cc0_scratch0) (Memref.isWhole_whole _) cc0_scratch1 cc0_scratch2 cc0_scratch3 cc0_scratch4 cc0_scratch5) (fun _ => post m c) := by
  unfold pre before start G'
  iintro ⟨⟨⟨⟨%K, HR, Hat, Htok⟩, Hcr, Hlev, ⟨%fo, Hv⟩⟩, ⟨%fg, Hg⟩⟩, Ho, ⟨%d, Hx⟩⟩
  unfold stage
  icases Hx with ⟨%X, %hX, Hx⟩
  rw [before_eq] at hX
  subst hX
  unfold Dat.owesAt Pipeline.owesWithin
  icases Ho with ⟨%W, -, Ho⟩
  iapply (sound_body m K c fg fo W (fun _ => post m c))
  isplitr [Hx Hg]
  · isplitr
    · iintro ⟨HF, Hx, ⟨%W', Ho⟩⟩
      unfold post Dat.owesAt Pipeline.owesWithin stage xBuf
      isplitl [HF]; · iexact HF
      isplitl [Ho]
      · iexists W'
        isplitr
        · ipureintro; exact fun _ _ => Or.inl trivial
        iexact Ho
      iexists _
      isplitr
      · ipureintro; exact (staged_eq m c).symm
      iexact Hx
    isplitl [HR]; · iexact HR
    isplitl [Hlev]; · iexact Hlev
    isplitl [Hat Htok Hcr]
    · unfold Start
      isplitl [Hat]; · iexact Hat
      isplitl [Htok]; · iexact Htok
      iexact Hcr
    isplitl [Hv]; · iexact Hv
    iexact Ho
  isplitl [Hx]; · unfold xBuf; iexact Hx
  iexact Hg

theorem first_Φ (c : Dev nD) : (dats m 0 c).Φ t0_0.castSucc = before m c := rfl
theorem last_Φ (c : Dev nD) : (dats m 0 c).Φ t0_0.succ = Finish m c := rfl

theorem body_at : defs₀ (F := F) .tc cfg0.body (cfg0.bodyArgs t0_0 (cfg0.slots t0_0))
    = cc0_body (Memref.whole cc0_stg0_0) (Memref.isWhole_whole _) (Memref.whole main_v1) (Memref.isWhole_whole _)
        (Memref.whole cc0_scratch0) (Memref.isWhole_whole _) cc0_scratch1 cc0_scratch2 cc0_scratch3 cc0_scratch4 cc0_scratch5 := rfl

set_option maxRecDepth 8000 in
/-- The body meets its obligation. -/
theorem obligation (c : Dev nD) : BodyObligation (dats (F := F) m 0 c) (defs₀ (F := F)) 𝒱₀ () Set.univ := fun t => by
  rw [fin_N0 t]
  rw [body_at, bigSep_W0, bigSep_W0]
  simp only [owns_buf]
  rw [first_Φ, last_Φ]
  refine BIBase.Entails.trans (Q := pre m c) (Entails.of_eq rfl) (BIBase.Entails.trans (kernel_runs m c) ?_)
  have e : (post m c : sProp 𝕄) = iprop(Finish m c ∗ (dats m 0 c).owesAt () t0_0.succ
      ∗ ∃ f : Buf (Elt F) ((c : Thread nD τ).loc cc0_stg0_0), ⌜f = (dats m 0 c).after 0 t0_0⌝ ∗ (((c : Thread nD τ).loc cc0_stg0_0) ↦{fullShare} f)) := rfl
  rw [e]

/-! ## The launch theorem's side conditions -/

variable (ρ : Dev nD → PrngReg)

theorem start_deal (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hv, Hlev, Hcr, -, HG⟩
  ihave Hc := (credits_dealt (F := F) c) $$ Hcr
  imodintro
  unfold start vBuf
  isplitl
  · isplitl [HG]; · iexact HG
    isplitl [Hc]; · iexact Hc
    isplitl [Hlev]; · iexact Hlev
    iexists _; iexact Hv
  · iempintro

theorem point_in (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before gBuf
  iintro ⟨Hs, -, ⟨%f, Hg⟩⟩
  isplitl [Hs]; · iexact Hs
  iexists f; iexact Hg

theorem point_out (c : Dev nD) :
    (dats m 0 c).Φ (Fin.last cfg0.N)
      ⊢ iprop((unscopedSems0 c ∗ vBuf c (gathered m)) ∗ Pipeline.ownSems0 osem c ∗ Pipeline.scopedRest cfg0.spec c) := by
  rw [show (dats m 0 c).Φ (Fin.last cfg0.N) = Finish m c from rfl, scopedRest0_eq, unscoped_bar]
  unfold Finish vBuf Pipeline.ownSems0
  iintro ⟨Hg, Hv, HB, HS⟩
  isplitl [HB Hv]
  · isplitl [HB]; · iexact HB
    iexact Hv
  isplitl [HS]; · iexact HS
  iexists _; iexact Hg

theorem waits (c : Dev nD) : (levAts L lv : sProp 𝕄) ⊢ Pipeline.cellsWaits cfgs (dats m) () 0 c :=
  Pipeline.cellsWaits_intro cfgs (dats m) () 0 c fun w s t => by
    have h : SemLoc.dma ((cfg0.spec w).sem s) = .dma (0 : DmaSem sig) := by fin_cases w; fin_cases s; rfl
    have e := mayWait_stage (F := F) c ((dats m 0 c).owed t) (by
      rcases t with ⟨_ | _, ht⟩
      · exact Or.inl rfl
      · exact Or.inr rfl)
    rw [← h] at e
    exact e

/-- What the end state is read for. -/
theorem read_out (c : Dev nD) (s' : Phys nD τ sig (Elt F)) :
    iprop((unscopedSems0 c ∗ vBuf c (gathered m)) ∗ emp ∗ SI s')
      ⊢ |={Set.univ}=> iprop(⌜(∀ sm : SemLoc sig, sm.isScoped .tc = false → s'.mem.sem ((c.tc : Thread nD τ), sm) = 0)
          ∧ s'.mem.mem ((c : Thread nD τ).loc main_v1) = gathered m⌝ ∗ SI s') := by
  unfold vBuf
  iintro ⟨⟨Hu, Hv⟩, -, HSI⟩
  icombine HSI Hv gives %h
  have hm := Buf.eq_of_forall_mem_univ h
  imod (Pipeline.unscopedSems0_read (X := unscopedSems0 c) (c := c) fupd_intro s') $$ [Hu HSI] with ⟨%hs, HSI⟩
  · isplitl [Hu] <;> iassumption
  imodintro
  isplitr
  · ipureintro; exact ⟨hs, hm⟩
  iexact HSI

/-! ## The run -/

def u₀ : UU :=
  (initOf (Pipeline.cells cfgs cellOf_inj) (Pipeline.launchToks cfgs cellOf_inj), initOf ringCells ringToks)

set_option maxRecDepth 100000 in
/-- From any memory, with all semaphores at zero, the sixteen devices' program ends; then every result array is the
    gathered one, every argument is as it was, and every semaphore is at zero. -/
theorem run_main :
    θ_run defs (onTc (τ := τ) (main (F := F))) ⟨m, fun _ => 0, ρ⟩ (fun r =>
      (∀ c : Dev nD, r.2.mem ((c : Thread nD τ).loc main_v1) = gathered m ∧ r.2.mem ((c : Thread nD τ).loc main_arg0) = m ((c : Thread nD τ).loc main_arg0))
        ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := obligation m) (hne := block_pos0) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := open_all m)
    (hA := fun _ _ => rfl) (hpf := fun _ k => k.elim0)
    (X := start m) (Y := fun c => iprop(unscopedSems0 c ∗ vBuf c (gathered m))) (Z := fun _ => iprop(emp))
    (hX := start_deal m ρ) (hin := point_in m) (hout := point_out m)
    (QY := fun c s => (∀ sm : SemLoc sig, sm.isScoped .tc = false → s.sem ((c.tc : Thread nD τ), sm) = 0)
      ∧ s.mem ((c : Thread nD τ).loc main_v1) = gathered m)
    (hY := read_out m)
    (hQ := fun _ h hs => ⟨fun c => ⟨(h c).2.2.2, ((h c).1 (0 : Fin 1)).trans ((dats (F := F) m 0 c).arrAt_in (0 : Fin 1) rfl _)⟩,
      sem_eq_zero hs fun c => (h c).2.2.1⟩)

end Cert.Gather

end
-- ==== Proof.Refs.lean ====
/-
# 01_k — the references

The reference gives its argument back as its result, so its program does nothing: it ends in the memory it began in.
-/
module

public import proofs.«01_k».proof.Proof.Gen.Reference
public import proofs.«01_k».proof.Proof.Gen.ReferenceIdeal
public import Idealize.ShloMosaic.Lib.StableHlo.Run
public import Idealize.ShloMosaic.Lib.Quiescent
public import Idealize.ShloMosaic.PureOps.BitExact
public import Idealize.ShloMosaic.PureOps.Ideal

@[expose] public section

noncomputable section

namespace Cert.Gather

open Idealize.ShloMosaic Idealize.SL.Sem

/-- The reference ends with its argument, which is its result, as it was, and every semaphore at zero. -/
theorem reference_runs (m : (ℓ : Loc Cert.Reference.nD Cert.Reference.τ Cert.Reference.sig) → Buf (Elt Bits) ℓ)
    (ρ : Dev Cert.Reference.nD → PrngReg) :
    θ_run (Cert.Reference.defs (F := Bits)) (onTc (τ := Cert.Reference.τ) (Cert.Reference.main (F := Bits)))
      ⟨m, fun _ => 0, ρ⟩ (fun r => (∀ c : Dev Cert.Reference.nD,
        r.2.mem ((c.tc : Thread Cert.Reference.nD Cert.Reference.τ).loc Cert.Reference.main_arg0)
          = m ((c.tc : Thread Cert.Reference.nD Cert.Reference.τ).loc Cert.Reference.main_arg0))
        ∧ r.2.sem = fun _ => 0) :=
  (θ_run _ _ _).mono (fun r h => ⟨fun c => h c Cert.Reference.main_arg0, sem_eq_zero_of_no_sems (by decide) r.2⟩)
    (StableHlo.run_seq (by decide) (by decide) Cert.Reference.defs Cert.Reference.main (fun _ => [])
      (fun _ => rfl) (fun _ => trivial) m ρ)

/-- The same of the reference at exact values. -/
theorem referenceIdeal_runs
    (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal))
      (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run _ _ _).mono (fun r h => ⟨fun c => h c Cert.ReferenceIdeal.main_arg0, sem_eq_zero_of_no_sems (by decide) r.2⟩)
    (StableHlo.run_seq (by decide) (by decide) Cert.ReferenceIdeal.defs Cert.ReferenceIdeal.main (fun _ => [])
      (fun _ => rfl) (fun _ => trivial) m ρ)

end Cert.Gather

end
-- ==== Proof.Claims.lean ====
/-
# 01_k — the claims

The kernel as written and the kernel at exact values are one program, so the run proved once holds of both. The array
gathered from the devices' blocks is the whole array they were cut from, which is what the reference gives.
-/
module

public import proofs.«01_k».proof.Defs
public import proofs.«01_k».proof.Proof.Gen.Kernel
public import proofs.«01_k».proof.Proof.Run
public import proofs.«01_k».proof.Proof.Refs
public import Idealize.ShloMosaic.Lib.Layout

@[expose] public section

noncomputable section

namespace Cert.Gather

open Cert.KernelIdeal Cert.KernelIdeal.Gen
open Idealize.ShloMosaic Idealize.ShloMosaic.TcCoe Idealize.SL.Sem

variable {F : FTy → Type} [FloatOps F]

/-! ## One program -/

/-- The kernel's body is the same in both programs. -/
theorem bodies_same : Cert.Kernel.defs₀ (F := F) = Cert.KernelIdeal.defs₀ (F := F) :=
  funext fun p => funext fun l => by
    cases p with
    | tc => exact funext fun a => match l, a with
      | 0, (_, _) => rfl
    | _ => rfl

/-- So is the body with its windows' copies around it. -/
theorem defs_same : Cert.Kernel.defs (F := F) = Cert.KernelIdeal.defs (F := F) :=
  congrArg (Pipeline.defs (Cert.KernelIdeal.pcfgs (F := F))) bodies_same

/-- So is what each device runs. -/
theorem main_same : Cert.Kernel.main (F := F) = Cert.KernelIdeal.main (F := F) := rfl

/-- What the run of the kernel at exact values was proved to do, the kernel as written does. -/
theorem run_written (m : (ℓ : Loc nD τ sig) → Buf (Elt F) ℓ) (ρ : Dev nD → PrngReg) :
    θ_run (Cert.Kernel.defs (F := F)) (onTc (τ := Cert.Kernel.τ) (Cert.Kernel.main (F := F))) ⟨m, fun _ => 0, ρ⟩
      (fun r =>
        (∀ c : Dev nD, r.2.mem ((c : Thread nD τ).loc main_v1) = gathered m
            ∧ r.2.mem ((c : Thread nD τ).loc main_arg0) = m ((c : Thread nD τ).loc main_arg0))
          ∧ r.2.sem = fun _ => 0) := by
  rw [defs_same, main_same]
  exact run_main m ρ

/-! ## The gathered array -/

/-- Blocks of sixteen cut from `Y` along its rows gather to `Y`. -/
theorem gathered_of_blocks (m : (ℓ : Loc nD τ sig) → Buf (Elt F) ℓ) (Y : Arr F)
    (h : ∀ c : Dev nD, m ((c : Thread nD τ).loc main_arg0)
      = Layout.block ⟨2, ![512, 512]⟩ ⟨2, ![8192, 512]⟩ 0 16 c Y) : gathered m = Y := by
  funext i
  have e : (show Layout.Tiles ⟨2, ![512, 512]⟩ ⟨2, ![8192, 512]⟩ 0 16 by decide).idx (homeOf i) (placeOf i) = i := by
    funext b
    apply Fin.ext
    rcases b with ⟨_ | _ | n, hb⟩
    · show (i 0).val / 512 * 512 + (i 0).val % 512 = (i 0).val
      omega
    · rfl
    · exact absurd hb (by show ¬ n + 2 < 2; omega)
  exact (congrFun (h (homeOf i)) (placeOf i)).trans (congrArg Y e)

/-! ## The claims -/

theorem frame_written : quiescent_Kernel := fun m ρ _ =>
  (θ_run _ _ _).mono (fun _ h => ⟨fun c => (h.1 c).2, h.2⟩) (run_written m ρ)

theorem frame_exact : quiescent_KernelIdeal := fun m ρ _ =>
  (θ_run _ _ _).mono (fun _ h => ⟨fun c => (h.1 c).2, h.2⟩) (run_main m ρ)

theorem frame_reference : quiescent_Reference := fun m ρ _ => reference_runs m ρ

theorem frame_referenceExact : quiescent_ReferenceIdeal := fun m ρ _ => referenceIdeal_runs m ρ

/-- At exact values every device ends with the reference's result. -/
theorem agrees_exact : algebraic_KernelIdeal_ReferenceIdeal := fun m ρ m' ρ' _ h =>
  ⟨_, (θ_run _ _ _).mono (fun _ k c => ⟨(k.1 c).1.trans (gathered_of_blocks m _ h), (k.1 c).2⟩) (run_main m ρ),
    (θ_run _ _ _).mono (fun _ k => ⟨k.1 0, k.1 0⟩) (referenceIdeal_runs m' ρ')⟩

/-- As written every device ends with the reference's result, bit for bit. -/
theorem agrees_bits : bitexact_Kernel_Reference := fun m ρ m' ρ' _ h =>
  ⟨_, (θ_run _ _ _).mono (fun _ k c => ⟨(k.1 c).1.trans (gathered_of_blocks m _ h), (k.1 c).2⟩) (run_written m ρ),
    (θ_run _ _ _).mono (fun _ k => ⟨k.1 0, k.1 0⟩) (reference_runs m' ρ')⟩

end Cert.Gather

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Reference.Gen.facts,
  Cert.Gather.frame_written, Cert.Gather.frame_exact, Cert.Gather.frame_referenceExact, Cert.Gather.frame_reference,
  trivial, Cert.Gather.agrees_exact, Cert.Gather.agrees_bits⟩

end Cert.Proof

end
